-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨3, ![1, 2048, 2048]⟩ ⟨3, ![4, 2048, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S1x2048x2048 : Shape := ⟨3, ![1, 2048, 2048]⟩
abbrev S1x2048 : Shape := ⟨2, ![1, 2048]⟩
abbrev S128x2048 : Shape := ⟨2, ![128, 2048]⟩
abbrev S2x128x2048 : Shape := ⟨3, ![2, 128, 2048]⟩
abbrev S2x512x2048 : Shape := ⟨3, ![2, 512, 2048]⟩
abbrev S_ : Shape := ⟨0, ![]⟩
abbrev S2 : Shape := ⟨1, ![2]⟩
abbrev S3 : Shape := ⟨1, ![3]⟩
abbrev S4 : Shape := ⟨1, ![4]⟩
abbrev S1x128x2048 : Shape := ⟨3, ![1, 128, 2048]⟩
abbrev S1 : Shape := ⟨1, ![1]⟩
abbrev S128 : Shape := ⟨1, ![128]⟩
abbrev S128x1 : Shape := ⟨2, ![128, 1]⟩
abbrev S2048 : Shape := ⟨1, ![2048]⟩
abbrev S512x2048 : Shape := ⟨2, ![512, 2048]⟩
abbrev S1x512x2048 : Shape := ⟨3, ![1, 512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .local _ .vmem, ⟨0, _⟩ => ⟨S1x2048, .f32⟩
  | .local _ .vmem, ⟨1, _⟩ => ⟨S128x2048, .f32⟩
  | .local _ .vmem, ⟨2, _⟩ => ⟨S2x128x2048, .bf16⟩
  | .local _ .vmem, ⟨3, _⟩ => ⟨S2048x2048, .bf16⟩
  | .local _ .vmem, ⟨4, _⟩ => ⟨S2x512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c2_i32_26 : BitVec 32) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c512_i32 : BitVec 32 := 512#32
  let v57 : BitVec 32 := Scalar.muli v33 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v46 : BitVec 32 := Scalar.addi v8 c2_i32_26
  let c4_i32_27 : BitVec 32 := 4#32
  let c0_i32_28 : BitVec 32 := 0#32
  let v47 : BitVec 1 := Scalar.cmpi .eq c4_i32_27 c0_i32_28
  let c1_i32_29 : BitVec 32 := 1#32
  let v48 : BitVec 32 := Scalar.select v47 c1_i32_29 c4_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c128_i32 : BitVec 32 := 128#32
  let v58 : BitVec 32 := Scalar.muli v56 c128_i32
  let v59 : BitVec 32 := Scalar.addi v57 v58
  let c0_i32_33 : BitVec 32 := 0#32
  ![v59.toNat, 0]
def k0_dev1 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v94 : BitVec 32 := Scalar.muli v2 c8_i32_57
  let v95 : BitVec 32 := Scalar.addi c0_i32_58 v94
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v96 : BitVec 32 := Scalar.muli v5 c4_i32_59
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_60 : BitVec 32 := 1#32
  let v98 : BitVec 32 := Scalar.muli v31 c1_i32_60
  let v99 : BitVec 32 := Scalar.addi v97 v98
  v99.toNat
def k0_dev2 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v100 : BitVec 32 := Scalar.muli v2 c8_i32_62
  let v101 : BitVec 32 := Scalar.addi c0_i32_63 v100
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_64 : BitVec 32 := 4#32
  let v102 : BitVec 32 := Scalar.muli v5 c4_i32_64
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_65 : BitVec 32 := 1#32
  let v104 : BitVec 32 := Scalar.muli v19 c1_i32_65
  let v105 : BitVec 32 := Scalar.addi v103 v104
  v105.toNat
def k0_dev3 (d0 : Dev nD) : Nat :=
  let c0_i32_68 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_24 v2
  let c8_i32_67 : BitVec 32 := 8#32
  let v106 : BitVec 32 := Scalar.muli v44 c8_i32_67
  let v107 : BitVec 32 := Scalar.addi c0_i32_68 v106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v108 : BitVec 32 := Scalar.muli v5 c4_i32_69
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v110 : BitVec 32 := Scalar.muli v8 c1_i32_70
  let v111 : BitVec 32 := Scalar.addi v109 v110
  v111.toNat
def k0_dev4 (d0 : Dev nD) : Nat :=
  let c0_i32_73 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_72 : BitVec 32 := 8#32
  let v112 : BitVec 32 := Scalar.muli v2 c8_i32_72
  let v113 : BitVec 32 := Scalar.addi c0_i32_73 v112
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.subi c1_i32_25 v5
  let c4_i32_74 : BitVec 32 := 4#32
  let v114 : BitVec 32 := Scalar.muli v45 c4_i32_74
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v116 : BitVec 32 := Scalar.muli v8 c1_i32_75
  let v117 : BitVec 32 := Scalar.addi v115 v116
  v117.toNat
def k0_dev5 (d0 : Dev nD) : Nat :=
  let c0_i32_78 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_77 : BitVec 32 := 8#32
  let v118 : BitVec 32 := Scalar.muli v67 c8_i32_77
  let v119 : BitVec 32 := Scalar.addi c0_i32_78 v118
  let c1_i32_40 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v68 : BitVec 32 := Scalar.subi c1_i32_40 v5
  let c4_i32_79 : BitVec 32 := 4#32
  let v120 : BitVec 32 := Scalar.muli v68 c4_i32_79
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v69 : BitVec 32 := Scalar.addi v8 c3_i32
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  let c1_i32_80 : BitVec 32 := 1#32
  let v122 : BitVec 32 := Scalar.muli v79 c1_i32_80
  let v123 : BitVec 32 := Scalar.addi v121 v122
  v123.toNat
def k0_dev6 (d0 : Dev nD) : Nat :=
  let c0_i32_83 : BitVec 32 := 0#32
  let c1_i32_47 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v80 : BitVec 32 := Scalar.subi c1_i32_47 v2
  let c8_i32_82 : BitVec 32 := 8#32
  let v124 : BitVec 32 := Scalar.muli v80 c8_i32_82
  let v125 : BitVec 32 := Scalar.addi c0_i32_83 v124
  let c1_i32_48 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v81 : BitVec 32 := Scalar.subi c1_i32_48 v5
  let c4_i32_84 : BitVec 32 := 4#32
  let v126 : BitVec 32 := Scalar.muli v81 c4_i32_84
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v82 : BitVec 32 := Scalar.addi v8 c1_i32_49
  let c4_i32_50 : BitVec 32 := 4#32
  let c0_i32_51 : BitVec 32 := 0#32
  let v83 : BitVec 1 := Scalar.cmpi .eq c4_i32_50 c0_i32_51
  let c1_i32_52 : BitVec 32 := 1#32
  let v84 : BitVec 32 := Scalar.select v83 c1_i32_52 c4_i32_50
  let v85 : BitVec 32 := Scalar.remsi v82 v84
  let c0_i32_54 : BitVec 32 := 0#32
  let v87 : BitVec 1 := Scalar.cmpi .slt v85 c0_i32_54
  let c0_i32_55 : BitVec 32 := 0#32
  let v88 : BitVec 1 := Scalar.cmpi .slt v84 c0_i32_55
  let v89 : BitVec 1 := Scalar.xori v87 v88
  let c0_i32_53 : BitVec 32 := 0#32
  let v86 : BitVec 1 := Scalar.cmpi .ne v85 c0_i32_53
  let v90 : BitVec 1 := Scalar.andi v89 v86
  let v91 : BitVec 32 := Scalar.addi v85 v84
  let v92 : BitVec 32 := Scalar.select v90 v91 v85
  let c1_i32_85 : BitVec 32 := 1#32
  let v128 : BitVec 32 := Scalar.muli v92 c1_i32_85
  let v129 : BitVec 32 := Scalar.addi v127 v128
  v129.toNat
def k0_dev7 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_90 : BitVec 32 := 8#32
  let v130 : BitVec 32 := Scalar.muli v2 c8_i32_90
  let v131 : BitVec 32 := Scalar.addi c0_i32_91 v130
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v132 : BitVec 32 := Scalar.muli v5 c4_i32_92
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_93 : BitVec 32 := 1#32
  let v134 : BitVec 32 := Scalar.muli v19 c1_i32_93
  let v135 : BitVec 32 := Scalar.addi v133 v134
  v135.toNat
def k0_off2 (d0 : Dev nD) : Fin 3 → Nat :=
  let c0_i32_108 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c512_i32_106 : BitVec 32 := 512#32
  let v156 : BitVec 32 := Scalar.muli v33 c512_i32_106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_98 : BitVec 32 := 3#32
  let v144 : BitVec 32 := Scalar.addi v8 c3_i32_98
  let c2_i32_99 : BitVec 32 := 2#32
  let v145 : BitVec 32 := Scalar.subi v144 c2_i32_99
  let c4_i32_100 : BitVec 32 := 4#32
  let c0_i32_101 : BitVec 32 := 0#32
  let v146 : BitVec 1 := Scalar.cmpi .eq c4_i32_100 c0_i32_101
  let c1_i32_102 : BitVec 32 := 1#32
  let v147 : BitVec 32 := Scalar.select v146 c1_i32_102 c4_i32_100
  let v148 : BitVec 32 := Scalar.remsi v145 v147
  let c0_i32_104 : BitVec 32 := 0#32
  let v150 : BitVec 1 := Scalar.cmpi .slt v148 c0_i32_104
  let c0_i32_105 : BitVec 32 := 0#32
  let v151 : BitVec 1 := Scalar.cmpi .slt v147 c0_i32_105
  let v152 : BitVec 1 := Scalar.xori v150 v151
  let c0_i32_103 : BitVec 32 := 0#32
  let v149 : BitVec 1 := Scalar.cmpi .ne v148 c0_i32_103
  let v153 : BitVec 1 := Scalar.andi v152 v149
  let v154 : BitVec 32 := Scalar.addi v148 v147
  let v155 : BitVec 32 := Scalar.select v153 v154 v148
  let c128_i32_107 : BitVec 32 := 128#32
  let v157 : BitVec 32 := Scalar.muli v155 c128_i32_107
  let v158 : BitVec 32 := Scalar.addi v156 v157
  let c0_i32_109 : BitVec 32 := 0#32
  ![0, v158.toNat, 0]
def k0_off3 (d0 : Dev nD) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c512_i32_160 : BitVec 32 := 512#32
  let v226 : BitVec 32 := Scalar.muli v33 c512_i32_160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v189 : BitVec 32 := Scalar.addi v8 c1_i32_140
  let c4_i32_141 : BitVec 32 := 4#32
  let c0_i32_142 : BitVec 32 := 0#32
  let v190 : BitVec 1 := Scalar.cmpi .eq c4_i32_141 c0_i32_142
  let c1_i32_143 : BitVec 32 := 1#32
  let v191 : BitVec 32 := Scalar.select v190 c1_i32_143 c4_i32_141
  let v192 : BitVec 32 := Scalar.remsi v189 v191
  let c0_i32_145 : BitVec 32 := 0#32
  let v194 : BitVec 1 := Scalar.cmpi .slt v192 c0_i32_145
  let c0_i32_146 : BitVec 32 := 0#32
  let v195 : BitVec 1 := Scalar.cmpi .slt v191 c0_i32_146
  let v196 : BitVec 1 := Scalar.xori v194 v195
  let c0_i32_144 : BitVec 32 := 0#32
  let v193 : BitVec 1 := Scalar.cmpi .ne v192 c0_i32_144
  let v197 : BitVec 1 := Scalar.andi v196 v193
  let v198 : BitVec 32 := Scalar.addi v192 v191
  let v199 : BitVec 32 := Scalar.select v197 v198 v192
  let c128_i32_161 : BitVec 32 := 128#32
  let v227 : BitVec 32 := Scalar.muli v199 c128_i32_161
  let v228 : BitVec 32 := Scalar.addi v226 v227
  let v229 : Index := Scalar.indexCast v228
  let c0_162 : Index := 0#32
  ![v229.toNat, 0]
def k0_dev8 (d0 : Dev nD) : Nat :=
  let c0_i32_170 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_24 v2
  let c8_i32_169 : BitVec 32 := 8#32
  let v239 : BitVec 32 := Scalar.muli v44 c8_i32_169
  let v240 : BitVec 32 := Scalar.addi c0_i32_170 v239
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_171 : BitVec 32 := 4#32
  let v241 : BitVec 32 := Scalar.muli v5 c4_i32_171
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v243 : BitVec 32 := Scalar.muli v8 c1_i32_172
  let v244 : BitVec 32 := Scalar.addi v242 v243
  v244.toNat
def k0_dev9 (d0 : Dev nD) : Nat :=
  let c0_i32_182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_181 : BitVec 32 := 8#32
  let v257 : BitVec 32 := Scalar.muli v2 c8_i32_181
  let v258 : BitVec 32 := Scalar.addi c0_i32_182 v257
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.subi c1_i32_25 v5
  let c4_i32_183 : BitVec 32 := 4#32
  let v259 : BitVec 32 := Scalar.muli v45 c4_i32_183
  let v260 : BitVec 32 := Scalar.addi v258 v259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v261 : BitVec 32 := Scalar.muli v8 c1_i32_184
  let v262 : BitVec 32 := Scalar.addi v260 v261
  v262.toNat
def k0_dev10 (d0 : Dev nD) : Nat :=
  let c0_i32_192 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v67 : BitVec 32 := Scalar.subi c1_i32_39 v2
  let c8_i32_191 : BitVec 32 := 8#32
  let v275 : BitVec 32 := Scalar.muli v67 c8_i32_191
  let v276 : BitVec 32 := Scalar.addi c0_i32_192 v275
  let c1_i32_40 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v68 : BitVec 32 := Scalar.subi c1_i32_40 v5
  let c4_i32_193 : BitVec 32 := 4#32
  let v277 : BitVec 32 := Scalar.muli v68 c4_i32_193
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v69 : BitVec 32 := Scalar.addi v8 c3_i32
  let c4_i32_41 : BitVec 32 := 4#32
  let c0_i32_42 : BitVec 32 := 0#32
  let v70 : BitVec 1 := Scalar.cmpi .eq c4_i32_41 c0_i32_42
  let c1_i32_43 : BitVec 32 := 1#32
  let v71 : BitVec 32 := Scalar.select v70 c1_i32_43 c4_i32_41
  let v72 : BitVec 32 := Scalar.remsi v69 v71
  let c0_i32_45 : BitVec 32 := 0#32
  let v74 : BitVec 1 := Scalar.cmpi .slt v72 c0_i32_45
  let c0_i32_46 : BitVec 32 := 0#32
  let v75 : BitVec 1 := Scalar.cmpi .slt v71 c0_i32_46
  let v76 : BitVec 1 := Scalar.xori v74 v75
  let c0_i32_44 : BitVec 32 := 0#32
  let v73 : BitVec 1 := Scalar.cmpi .ne v72 c0_i32_44
  let v77 : BitVec 1 := Scalar.andi v76 v73
  let v78 : BitVec 32 := Scalar.addi v72 v71
  let v79 : BitVec 32 := Scalar.select v77 v78 v72
  let c1_i32_194 : BitVec 32 := 1#32
  let v279 : BitVec 32 := Scalar.muli v79 c1_i32_194
  let v280 : BitVec 32 := Scalar.addi v278 v279
  v280.toNat
def k0_off4 (d0 : Dev nD) (c0_i32_198 : BitVec 32) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c512_i32_216 : BitVec 32 := 512#32
  let v311 : BitVec 32 := Scalar.muli v33 c512_i32_216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v283 : BitVec 32 := Scalar.addi v8 c1_i32_197
  let v284 : BitVec 32 := Scalar.subi v283 c0_i32_198
  let c4_i32_199 : BitVec 32 := 4#32
  let v285 : BitVec 32 := Scalar.addi v284 c4_i32_199
  let c4_i32_200 : BitVec 32 := 4#32
  let c0_i32_201 : BitVec 32 := 0#32
  let v286 : BitVec 1 := Scalar.cmpi .eq c4_i32_200 c0_i32_201
  let c1_i32_202 : BitVec 32 := 1#32
  let v287 : BitVec 32 := Scalar.select v286 c1_i32_202 c4_i32_200
  let v288 : BitVec 32 := Scalar.remsi v285 v287
  let c0_i32_204 : BitVec 32 := 0#32
  let v290 : BitVec 1 := Scalar.cmpi .slt v288 c0_i32_204
  let c0_i32_205 : BitVec 32 := 0#32
  let v291 : BitVec 1 := Scalar.cmpi .slt v287 c0_i32_205
  let v292 : BitVec 1 := Scalar.xori v290 v291
  let c0_i32_203 : BitVec 32 := 0#32
  let v289 : BitVec 1 := Scalar.cmpi .ne v288 c0_i32_203
  let v293 : BitVec 1 := Scalar.andi v292 v289
  let v294 : BitVec 32 := Scalar.addi v288 v287
  let v295 : BitVec 32 := Scalar.select v293 v294 v288
  let c128_i32_217 : BitVec 32 := 128#32
  let v312 : BitVec 32 := Scalar.muli v295 c128_i32_217
  let v313 : BitVec 32 := Scalar.addi v311 v312
  let c0_i32_224 : BitVec 32 := 0#32
  ![v313.toNat, 0]
def k0_dev11 (d0 : Dev nD) : Nat :=
  let c0_i32_221 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_220 : BitVec 32 := 8#32
  let v314 : BitVec 32 := Scalar.muli v2 c8_i32_220
  let v315 : BitVec 32 := Scalar.addi c0_i32_221 v314
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_222 : BitVec 32 := 4#32
  let v316 : BitVec 32 := Scalar.muli v5 c4_i32_222
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_223 : BitVec 32 := 1#32
  let v318 : BitVec 32 := Scalar.muli v19 c1_i32_223
  let v319 : BitVec 32 := Scalar.addi v317 v318
  v319.toNat
def k0_off5 (d0 : Dev nD) (c0_i32_206 : BitVec 32) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c512_i32_241 : BitVec 32 := 512#32
  let v343 : BitVec 32 := Scalar.muli v33 c512_i32_241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v296 : BitVec 32 := Scalar.subi v8 c0_i32_206
  let c4_i32_207 : BitVec 32 := 4#32
  let v297 : BitVec 32 := Scalar.addi v296 c4_i32_207
  let c4_i32_208 : BitVec 32 := 4#32
  let c0_i32_209 : BitVec 32 := 0#32
  let v298 : BitVec 1 := Scalar.cmpi .eq c4_i32_208 c0_i32_209
  let c1_i32_210 : BitVec 32 := 1#32
  let v299 : BitVec 32 := Scalar.select v298 c1_i32_210 c4_i32_208
  let v300 : BitVec 32 := Scalar.remsi v297 v299
  let c0_i32_212 : BitVec 32 := 0#32
  let v302 : BitVec 1 := Scalar.cmpi .slt v300 c0_i32_212
  let c0_i32_213 : BitVec 32 := 0#32
  let v303 : BitVec 1 := Scalar.cmpi .slt v299 c0_i32_213
  let v304 : BitVec 1 := Scalar.xori v302 v303
  let c0_i32_211 : BitVec 32 := 0#32
  let v301 : BitVec 1 := Scalar.cmpi .ne v300 c0_i32_211
  let v305 : BitVec 1 := Scalar.andi v304 v301
  let v306 : BitVec 32 := Scalar.addi v300 v299
  let v307 : BitVec 32 := Scalar.select v305 v306 v300
  let c128_i32_242 : BitVec 32 := 128#32
  let v344 : BitVec 32 := Scalar.muli v307 c128_i32_242
  let v345 : BitVec 32 := Scalar.addi v343 v344
  let c0_i32_249 : BitVec 32 := 0#32
  ![v345.toNat, 0]
def k0_dev12 (d0 : Dev nD) : Nat :=
  let c0_i32_246 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_24 v2
  let c8_i32_245 : BitVec 32 := 8#32
  let v346 : BitVec 32 := Scalar.muli v44 c8_i32_245
  let v347 : BitVec 32 := Scalar.addi c0_i32_246 v346
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_247 : BitVec 32 := 4#32
  let v348 : BitVec 32 := Scalar.muli v5 c4_i32_247
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v350 : BitVec 32 := Scalar.muli v8 c1_i32_248
  let v351 : BitVec 32 := Scalar.addi v349 v350
  v351.toNat
def k0_dev13 (d0 : Dev nD) : Nat :=
  let c0_i32_258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_257 : BitVec 32 := 8#32
  let v364 : BitVec 32 := Scalar.muli v2 c8_i32_257
  let v365 : BitVec 32 := Scalar.addi c0_i32_258 v364
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.subi c1_i32_25 v5
  let c4_i32_259 : BitVec 32 := 4#32
  let v366 : BitVec 32 := Scalar.muli v45 c4_i32_259
  let v367 : BitVec 32 := Scalar.addi v365 v366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v368 : BitVec 32 := Scalar.muli v8 c1_i32_260
  let v369 : BitVec 32 := Scalar.addi v367 v368
  v369.toNat
def k0_dev14 (d0 : Dev nD) : Nat :=
  let c0_i32_287 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_286 : BitVec 32 := 8#32
  let v407 : BitVec 32 := Scalar.muli v2 c8_i32_286
  let v408 : BitVec 32 := Scalar.addi c0_i32_287 v407
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_288 : BitVec 32 := 4#32
  let v409 : BitVec 32 := Scalar.muli v5 c4_i32_288
  let v410 : BitVec 32 := Scalar.addi v408 v409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_289 : BitVec 32 := 1#32
  let v411 : BitVec 32 := Scalar.muli v19 c1_i32_289
  let v412 : BitVec 32 := Scalar.addi v410 v411
  v412.toNat
def k0_dev15 (d0 : Dev nD) : Nat :=
  let c0_i32_312 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_24 v2
  let c8_i32_311 : BitVec 32 := 8#32
  let v439 : BitVec 32 := Scalar.muli v44 c8_i32_311
  let v440 : BitVec 32 := Scalar.addi c0_i32_312 v439
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v441 : BitVec 32 := Scalar.muli v5 c4_i32_313
  let v442 : BitVec 32 := Scalar.addi v440 v441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v443 : BitVec 32 := Scalar.muli v8 c1_i32_314
  let v444 : BitVec 32 := Scalar.addi v442 v443
  v444.toNat
def k0_dev16 (d0 : Dev nD) : Nat :=
  let c0_i32_324 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_323 : BitVec 32 := 8#32
  let v457 : BitVec 32 := Scalar.muli v2 c8_i32_323
  let v458 : BitVec 32 := Scalar.addi c0_i32_324 v457
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.subi c1_i32_25 v5
  let c4_i32_325 : BitVec 32 := 4#32
  let v459 : BitVec 32 := Scalar.muli v45 c4_i32_325
  let v460 : BitVec 32 := Scalar.addi v458 v459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v461 : BitVec 32 := Scalar.muli v8 c1_i32_326
  let v462 : BitVec 32 := Scalar.addi v460 v461
  v462.toNat
def k0_dev17 (d0 : Dev nD) : Nat :=
  let c0_i32_353 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_352 : BitVec 32 := 8#32
  let v500 : BitVec 32 := Scalar.muli v2 c8_i32_352
  let v501 : BitVec 32 := Scalar.addi c0_i32_353 v500
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_354 : BitVec 32 := 4#32
  let v502 : BitVec 32 := Scalar.muli v5 c4_i32_354
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_355 : BitVec 32 := 1#32
  let v504 : BitVec 32 := Scalar.muli v19 c1_i32_355
  let v505 : BitVec 32 := Scalar.addi v503 v504
  v505.toNat
def k0_dev18 (d0 : Dev nD) : Nat :=
  let c0_i32_378 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_24 v2
  let c8_i32_377 : BitVec 32 := 8#32
  let v532 : BitVec 32 := Scalar.muli v44 c8_i32_377
  let v533 : BitVec 32 := Scalar.addi c0_i32_378 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_379 : BitVec 32 := 4#32
  let v534 : BitVec 32 := Scalar.muli v5 c4_i32_379
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v536 : BitVec 32 := Scalar.muli v8 c1_i32_380
  let v537 : BitVec 32 := Scalar.addi v535 v536
  v537.toNat
def k0_dev19 (d0 : Dev nD) : Nat :=
  let c0_i32_390 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_389 : BitVec 32 := 8#32
  let v550 : BitVec 32 := Scalar.muli v2 c8_i32_389
  let v551 : BitVec 32 := Scalar.addi c0_i32_390 v550
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.subi c1_i32_25 v5
  let c4_i32_391 : BitVec 32 := 4#32
  let v552 : BitVec 32 := Scalar.muli v45 c4_i32_391
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v554 : BitVec 32 := Scalar.muli v8 c1_i32_392
  let v555 : BitVec 32 := Scalar.addi v553 v554
  v555.toNat
def k0_off6 (d0 : Dev nD) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c512_i32_395 : BitVec 32 := 512#32
  let v562 : BitVec 32 := Scalar.muli v33 c512_i32_395
  let v563 : Index := Scalar.indexCast v562
  let c0_396 : Index := 0#32
  ![v563.toNat, 0]
def k0_off7 (d0 : Dev nD) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c512_i32_400 : BitVec 32 := 512#32
  let v569 : BitVec 32 := Scalar.muli v33 c512_i32_400
  let c0_i32_403 : BitVec 32 := 0#32
  ![v569.toNat, 0]
def k0_off8 (d0 : Dev nD) : Fin 2 → Nat :=
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_19 v2
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_20 v5
  let v39 : BitVec 32 := Scalar.addi v37 v38
  let c512_i32_408 : BitVec 32 := 512#32
  let v577 : BitVec 32 := Scalar.muli v39 c512_i32_408
  let c0_i32_409 : BitVec 32 := 0#32
  let v578 : BitVec 32 := Scalar.addi v577 c0_i32_409
  let c0_i32_416 : BitVec 32 := 0#32
  ![v578.toNat, 0]
def k0_off9 (d0 : Dev nD) (c0_i32_420 : BitVec 32) : Fin 2 → Nat :=
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_19 v2
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_20 v5
  let v39 : BitVec 32 := Scalar.addi v37 v38
  let c512_i32_430 : BitVec 32 := 512#32
  let v607 : BitVec 32 := Scalar.muli v39 c512_i32_430
  let c0_i32_418 : BitVec 32 := 0#32
  let v589 : BitVec 32 := Scalar.muli v39 c0_i32_418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v590 : BitVec 32 := Scalar.addi v589 v8
  let c1_i32_419 : BitVec 32 := 1#32
  let v591 : BitVec 32 := Scalar.addi v590 c1_i32_419
  let v592 : BitVec 32 := Scalar.subi v591 c0_i32_420
  let c4_i32_421 : BitVec 32 := 4#32
  let v593 : BitVec 32 := Scalar.addi v592 c4_i32_421
  let c4_i32_422 : BitVec 32 := 4#32
  let c0_i32_423 : BitVec 32 := 0#32
  let v594 : BitVec 1 := Scalar.cmpi .eq c4_i32_422 c0_i32_423
  let c1_i32_424 : BitVec 32 := 1#32
  let v595 : BitVec 32 := Scalar.select v594 c1_i32_424 c4_i32_422
  let v596 : BitVec 32 := Scalar.remsi v593 v595
  let c0_i32_426 : BitVec 32 := 0#32
  let v598 : BitVec 1 := Scalar.cmpi .slt v596 c0_i32_426
  let c0_i32_427 : BitVec 32 := 0#32
  let v599 : BitVec 1 := Scalar.cmpi .slt v595 c0_i32_427
  let v600 : BitVec 1 := Scalar.xori v598 v599
  let c0_i32_425 : BitVec 32 := 0#32
  let v597 : BitVec 1 := Scalar.cmpi .ne v596 c0_i32_425
  let v601 : BitVec 1 := Scalar.andi v600 v597
  let v602 : BitVec 32 := Scalar.addi v596 v595
  let v603 : BitVec 32 := Scalar.select v601 v602 v596
  let c128_i32_431 : BitVec 32 := 128#32
  let v608 : BitVec 32 := Scalar.muli v603 c128_i32_431
  let v609 : BitVec 32 := Scalar.addi v607 v608
  let c0_i32_438 : BitVec 32 := 0#32
  ![v609.toNat, 0]
def k0_dev20 (d0 : Dev nD) : Nat :=
  let c0_i32_435 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_24 v2
  let c8_i32_434 : BitVec 32 := 8#32
  let v610 : BitVec 32 := Scalar.muli v44 c8_i32_434
  let v611 : BitVec 32 := Scalar.addi c0_i32_435 v610
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_436 : BitVec 32 := 4#32
  let v612 : BitVec 32 := Scalar.muli v5 c4_i32_436
  let v613 : BitVec 32 := Scalar.addi v611 v612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v614 : BitVec 32 := Scalar.muli v8 c1_i32_437
  let v615 : BitVec 32 := Scalar.addi v613 v614
  v615.toNat
def k0_dev21 (d0 : Dev nD) : Nat :=
  let c0_i32_469 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.subi c1_i32_24 v2
  let c8_i32_468 : BitVec 32 := 8#32
  let v657 : BitVec 32 := Scalar.muli v44 c8_i32_468
  let v658 : BitVec 32 := Scalar.addi c0_i32_469 v657
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v659 : BitVec 32 := Scalar.muli v5 c4_i32_470
  let v660 : BitVec 32 := Scalar.addi v658 v659
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v661 : BitVec 32 := Scalar.muli v8 c1_i32_471
  let v662 : BitVec 32 := Scalar.addi v660 v661
  v662.toNat
def k0_off10 (d0 : Dev nD) : Fin 2 → Nat :=
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let v35 : BitVec 32 := Scalar.muli c2_i32_18 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.addi v35 v5
  let c512_i32_476 : BitVec 32 := 512#32
  let v671 : BitVec 32 := Scalar.muli v36 c512_i32_476
  let c0_i32_477 : BitVec 32 := 0#32
  let v672 : BitVec 32 := Scalar.addi v671 c0_i32_477
  let c0_i32_484 : BitVec 32 := 0#32
  ![v672.toNat, 0]
def k0_off11 (d0 : Dev nD) : Fin 2 → Nat :=
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let v35 : BitVec 32 := Scalar.muli c2_i32_18 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.addi v35 v5
  let c512_i32_522 : BitVec 32 := 512#32
  let v729 : BitVec 32 := Scalar.muli v36 c512_i32_522
  let c0_i32_510 : BitVec 32 := 0#32
  let v711 : BitVec 32 := Scalar.muli v36 c0_i32_510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v712 : BitVec 32 := Scalar.addi v711 v8
  let c1_i32_511 : BitVec 32 := 1#32
  let v713 : BitVec 32 := Scalar.addi v712 c1_i32_511
  let c2_i32_512 : BitVec 32 := 2#32
  let v714 : BitVec 32 := Scalar.subi v713 c2_i32_512
  let c4_i32_513 : BitVec 32 := 4#32
  let v715 : BitVec 32 := Scalar.addi v714 c4_i32_513
  let c4_i32_514 : BitVec 32 := 4#32
  let c0_i32_515 : BitVec 32 := 0#32
  let v716 : BitVec 1 := Scalar.cmpi .eq c4_i32_514 c0_i32_515
  let c1_i32_516 : BitVec 32 := 1#32
  let v717 : BitVec 32 := Scalar.select v716 c1_i32_516 c4_i32_514
  let v718 : BitVec 32 := Scalar.remsi v715 v717
  let c0_i32_518 : BitVec 32 := 0#32
  let v720 : BitVec 1 := Scalar.cmpi .slt v718 c0_i32_518
  let c0_i32_519 : BitVec 32 := 0#32
  let v721 : BitVec 1 := Scalar.cmpi .slt v717 c0_i32_519
  let v722 : BitVec 1 := Scalar.xori v720 v721
  let c0_i32_517 : BitVec 32 := 0#32
  let v719 : BitVec 1 := Scalar.cmpi .ne v718 c0_i32_517
  let v723 : BitVec 1 := Scalar.andi v722 v719
  let v724 : BitVec 32 := Scalar.addi v718 v717
  let v725 : BitVec 32 := Scalar.select v723 v724 v718
  let c128_i32_523 : BitVec 32 := 128#32
  let v730 : BitVec 32 := Scalar.muli v725 c128_i32_523
  let v731 : BitVec 32 := Scalar.addi v729 v730
  let c0_i32_530 : BitVec 32 := 0#32
  ![v731.toNat, 0]
def k0_dev22 (d0 : Dev nD) : Nat :=
  let c0_i32_527 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_526 : BitVec 32 := 8#32
  let v732 : BitVec 32 := Scalar.muli v2 c8_i32_526
  let v733 : BitVec 32 := Scalar.addi c0_i32_527 v732
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.subi c1_i32_25 v5
  let c4_i32_528 : BitVec 32 := 4#32
  let v734 : BitVec 32 := Scalar.muli v45 c4_i32_528
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_529 : BitVec 32 := 1#32
  let v736 : BitVec 32 := Scalar.muli v8 c1_i32_529
  let v737 : BitVec 32 := Scalar.addi v735 v736
  v737.toNat
def k0_off12 (d0 : Dev nD) : Fin 2 → Nat :=
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let v35 : BitVec 32 := Scalar.muli c2_i32_18 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.addi v35 v5
  let c512_i32_544 : BitVec 32 := 512#32
  let v758 : BitVec 32 := Scalar.muli v36 c512_i32_544
  let v759 : Index := Scalar.indexCast v758
  let c0_545 : Index := 0#32
  ![v759.toNat, 0]
def k0_off13 (d0 : Dev nD) : Fin 2 → Nat :=
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let v35 : BitVec 32 := Scalar.muli c2_i32_18 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.addi v35 v5
  let c512_i32_549 : BitVec 32 := 512#32
  let v765 : BitVec 32 := Scalar.muli v36 c512_i32_549
  let c0_i32_552 : BitVec 32 := 0#32
  ![v765.toNat, 0]
def k0_off14 (d0 : Dev nD) : Fin 2 → Nat :=
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_19 v2
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_20 v5
  let v39 : BitVec 32 := Scalar.addi v37 v38
  let c512_i32_584 : BitVec 32 := 512#32
  let v804 : BitVec 32 := Scalar.muli v39 c512_i32_584
  let v805 : Index := Scalar.indexCast v804
  let c0_585 : Index := 0#32
  ![v805.toNat, 0]
def k0_off15 (d0 : Dev nD) : Fin 2 → Nat :=
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_19 v2
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_20 v5
  let v39 : BitVec 32 := Scalar.addi v37 v38
  let c512_i32_589 : BitVec 32 := 512#32
  let v811 : BitVec 32 := Scalar.muli v39 c512_i32_589
  let c0_i32_592 : BitVec 32 := 0#32
  ![v811.toNat, 0]
def k0_off16 (d0 : Dev nD) : Fin 2 → Nat :=
  let c2_i32_22 : BitVec 32 := 2#32
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.subi c1_i32_21 v2
  let v41 : BitVec 32 := Scalar.muli c2_i32_22 v40
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_23 v5
  let v43 : BitVec 32 := Scalar.addi v41 v42
  let c512_i32_597 : BitVec 32 := 512#32
  let v819 : BitVec 32 := Scalar.muli v43 c512_i32_597
  let c0_i32_598 : BitVec 32 := 0#32
  let v820 : BitVec 32 := Scalar.addi v819 c0_i32_598
  let c0_i32_605 : BitVec 32 := 0#32
  ![v820.toNat, 0]
def k0_off17 (d0 : Dev nD) : Fin 2 → Nat :=
  let c2_i32_22 : BitVec 32 := 2#32
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.subi c1_i32_21 v2
  let v41 : BitVec 32 := Scalar.muli c2_i32_22 v40
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_23 v5
  let v43 : BitVec 32 := Scalar.addi v41 v42
  let c512_i32_646 : BitVec 32 := 512#32
  let v876 : BitVec 32 := Scalar.muli v43 c512_i32_646
  let v877 : Index := Scalar.indexCast v876
  let c0_647 : Index := 0#32
  ![v877.toNat, 0]
def k0_off18 (d0 : Dev nD) : Fin 2 → Nat :=
  let c2_i32_22 : BitVec 32 := 2#32
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.subi c1_i32_21 v2
  let v41 : BitVec 32 := Scalar.muli c2_i32_22 v40
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_23 v5
  let v43 : BitVec 32 := Scalar.addi v41 v42
  let c512_i32_651 : BitVec 32 := 512#32
  let v883 : BitVec 32 := Scalar.muli v43 c512_i32_651
  let c0_i32_654 : BitVec 32 := 0#32
  ![v883.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x2048 : Shape := ⟨2, ![2048, 2048]⟩
abbrev S4x2048x2048 : Shape := ⟨3, ![4, 2048, 2048]⟩
abbrev S1x2048 : Shape := ⟨2, ![1, 2048]⟩
abbrev S4 : Shape := ⟨1, ![4]⟩
abbrev S4x1 : Shape := ⟨2, ![4, 1]⟩
abbrev S1x4 : Shape := ⟨2, ![1, 4]⟩
abbrev S_ : Shape := ⟨0, ![]⟩
abbrev S4x4 : Shape := ⟨2, ![4, 4]⟩
abbrev S4x1x4x1x1 : Shape := ⟨5, ![4, 1, 4, 1, 1]⟩
abbrev S4x4x4x128x2048 : Shape := ⟨5, ![4, 4, 4, 128, 2048]⟩
abbrev S4x4x128x2048 : Shape := ⟨4, ![4, 4, 128, 2048]⟩
abbrev S2048 : Shape := ⟨1, ![2048]⟩
abbrev S2048x1 : Shape := ⟨2, ![2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .f32⟩
  | .hbm, ⟨2, _⟩ => ⟨S2048x2048, .f32⟩
  | .hbm, ⟨3, _⟩ => ⟨S1x2048, .f32⟩
  | .hbm, ⟨4, _⟩ => ⟨S4, .i32⟩
  | .hbm, ⟨5, _⟩ => ⟨S4x1, .i32⟩
  | .hbm, ⟨6, _⟩ => ⟨S4, .i32⟩
  | .hbm, ⟨7, _⟩ => ⟨S1x4, .i32⟩
  | .hbm, ⟨8, _⟩ => ⟨S_, .i32⟩
  | .hbm, ⟨9, _⟩ => ⟨S1x4, .i32⟩
  | .hbm, ⟨10, _⟩ => ⟨S1x4, .i32⟩
  | .hbm, ⟨11, _⟩ => ⟨S_, .i32⟩
  | .hbm, ⟨12, _⟩ => ⟨S1x4, .i32⟩
  | .hbm, ⟨13, _⟩ => ⟨S1x4, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x1x4x1x1, .i1⟩
  | .hbm, ⟨18, _⟩ => ⟨S4x4x4x128x2048, .f32⟩
  | .hbm, ⟨19, _⟩ => ⟨S_, .f32⟩
  | .hbm, ⟨20, _⟩ => ⟨S_, .f32⟩
  | .hbm, ⟨21, _⟩ => ⟨S4x4x4x128x2048, .i1⟩
  | .hbm, ⟨22, _⟩ => ⟨S4x4x4x128x2048, .f32⟩
  | .hbm, ⟨23, _⟩ => ⟨S4x4x4x128x2048, .f32⟩
  | .hbm, ⟨24, _⟩ => ⟨S_, .f32⟩
  | .hbm, ⟨25, _⟩ => ⟨S4x4x128x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Mesh.lean ====
/-
# The mesh, the pieces and the transfers

Device `c` of the 2 × 2 × 4 mesh stands at `(x, y, z) = (c / 8, c / 4 % 2, c % 4)`. The result's 2048 rows are sixteen
PIECES of 128 rows; the four pieces `4 q … 4 q + 3` are the quarter of the four devices with `2 x + y = q`, which
stand in a ring along `z`. Device `c` works out the piece `pc c 0`.

The kernel issues sixteen remote transfers per device, numbered here in program order:
`0` the ring's hop; `3` the diagonal piece; `4, 7, 10` the all-gather along `z`; `1, 5, 8, 11` the quarter's pieces to
the neighbour along `x`; `2, 6, 9, 12` the same along `y`; `13, 14` and `15` two pieces and one piece of the
neighbours' quarters passed on. `dst t c` is the device that `c`'s transfer `t` lands on, `src t c` the device whose
transfer `t` lands on `c`, `sent t c` the piece it carries.
-/
module

public import proofs.«01_k».proof.Proof.Gen.KernelIdeal
public import proofs.«01_k».proof.Proof.Gen.KernelIdeal.Skeleton

@[expose] public section

namespace Cert.KernelIdeal.Run

open Cert.KernelIdeal Cert.KernelIdeal.Gen
open Idealize.ShloMosaic Idealize.ShloMosaic.TcCoe

/-! ## The neighbours -/

set_option backward.proofsInPublic true in
/-- The next device along `z`, -/
def right (c : Dev nD) : Dev nD := ⟨4 * (c.val / 4) + (c.val % 4 + 1) % 4, by have := c.isLt; unfold nD at *; omega⟩
set_option backward.proofsInPublic true in
/-- the one before, -/
def left (c : Dev nD) : Dev nD := ⟨4 * (c.val / 4) + (c.val % 4 + 3) % 4, by have := c.isLt; unfold nD at *; omega⟩
set_option backward.proofsInPublic true in
/-- the neighbour along `x`, -/
def xn (c : Dev nD) : Dev nD := ⟨(c.val + 8) % 16, by unfold nD; omega⟩
set_option backward.proofsInPublic true in
/-- the neighbour along `y`, -/
def yn (c : Dev nD) : Dev nD := ⟨8 * (c.val / 8) + (c.val % 8 + 4) % 8, by have := c.isLt; unfold nD at *; omega⟩
set_option backward.proofsInPublic true in
/-- the device across `x` and `y` and one before along `z`, which the diagonal piece goes to, -/
def ddto (c : Dev nD) : Dev nD := ⟨4 * (3 - c.val / 4) + (c.val % 4 + 3) % 4, by have := c.isLt; unfold nD at *; omega⟩
set_option backward.proofsInPublic true in
/-- and the one it comes from. -/
def ddfr (c : Dev nD) : Dev nD := ⟨4 * (3 - c.val / 4) + (c.val % 4 + 1) % 4, by have := c.isLt; unfold nD at *; omega⟩

/-! ## The pieces -/

set_option backward.proofsInPublic true in
/-- The piece of `c`'s quarter `k` places before the one `c` works out. -/
def pc (c : Dev nD) (k : Fin 4) : Fin 16 := ⟨4 * (c.val / 4) + (c.val % 4 + 5 - k.val) % 4, by have := c.isLt; unfold nD at *; omega⟩

/-- The device that works out piece `p`. -/
def owner (p : Fin 16) : Dev nD := ⟨4 * (p.val / 4) + (p.val % 4 + 3) % 4, by have := p.isLt; unfold nD; omega⟩

theorem owner_pc (c : Dev nD) : owner (pc c 0) = c := by revert c; decide

/-! ## The transfers -/

/-- Where device `c`'s transfer `t` lands. -/
def dst (t : Fin 16) (c : Dev nD) : Dev nD :=
  match t with
  | 0 | 4 | 7 | 10 => right c
  | 1 | 5 | 8 | 11 | 13 | 14 => xn c
  | 3 => ddto c
  | _ => yn c

/-- Whose transfer `t` lands on device `c`. -/
def src (t : Fin 16) (c : Dev nD) : Dev nD :=
  match t with
  | 0 | 4 | 7 | 10 => left c
  | 1 | 5 | 8 | 11 | 13 | 14 => xn c
  | 3 => ddfr c
  | _ => yn c

/-- The piece device `c`'s transfer `t` carries (for the ring's hop `t = 0`, which carries no piece of the result, the
    piece `c` works out). -/
def sent (t : Fin 16) (c : Dev nD) : Fin 16 :=
  match t with
  | 0 | 1 | 2 | 3 | 4 => pc c 0
  | 5 | 6 | 7 => pc c 1
  | 8 | 9 | 10 => pc c 2
  | 11 | 12 => pc c 3
  | 13 => pc (yn c) 0
  | 14 => pc (yn c) 1
  | _ => pc (xn c) 2

/-- The piece that lands on `c` by transfer `t`; at `0`, the piece `c` works out itself. -/
def got (t : Fin 16) (c : Dev nD) : Fin 16 := if t = 0 then pc c 0 else sent t (src t c)

set_option maxRecDepth 100000 in
theorem dst_src (t : Fin 16) (c : Dev nD) : dst t (src t c) = c := by revert t c; decide +kernel
set_option maxRecDepth 100000 in
theorem src_dst (t : Fin 16) (c : Dev nD) : src t (dst t c) = c := by revert t c; decide +kernel
/-- Every piece lands on, or is worked out by, every device exactly once. -/
theorem got_injective (c : Dev nD) : Function.Injective fun t => got t c := by
  have h : ∀ c : Dev nD, ∀ t t' : Fin 16, got t c = got t' c → t = t' := by decide +kernel
  exact fun t t' => h c t t'
theorem got_surjective (c : Dev nD) : Function.Surjective fun t => got t c := by
  have h : ∀ c : Dev nD, ∀ p : Fin 16, ∃ t, got t c = p := by decide +kernel
  exact fun p => h c p
theorem got_dst (t : Fin 16) (ht : t ≠ 0) (c : Dev nD) : got t (dst t c) = sent t c := by
  unfold got; rw [if_neg ht, src_dst]

/-- The devices the six barrier signals go to, in program order. -/
def sigTo (k : Fin 6) (c : Dev nD) : Dev nD :=
  match k with
  | 0 => left c | 1 => right c | 2 => xn c | 3 => yn c | 4 => ddto c | 5 => ddfr c
/-- Whose signal `k` reaches `c`. -/
def sigFrom (k : Fin 6) (c : Dev nD) : Dev nD :=
  match k with
  | 0 => right c | 1 => left c | 2 => xn c | 3 => yn c | 4 => ddfr c | 5 => ddto c
theorem sigTo_sigFrom (k : Fin 6) (c : Dev nD) : sigTo k (sigFrom k c) = c := by revert k c; decide +kernel
theorem sigFrom_sigTo (k : Fin 6) (c : Dev nD) : sigFrom k (sigTo k c) = c := by revert k c; decide +kernel

/-- Transfer `t` along its devices, a permutation. -/
def dstEquiv (t : Fin 16) : Dev nD ≃ Dev nD := ⟨dst t, src t, src_dst t, dst_src t⟩
def sigEquiv (k : Fin 6) : Dev nD ≃ Dev nD := ⟨sigTo k, sigFrom k, sigFrom_sigTo k, sigTo_sigFrom k⟩

/-- The transfers whose landing places a device hands over with its signal `k`. -/
def handed (k : Fin 6) : List (Fin 16) :=
  match k with
  | 0 => [0, 4, 7, 10] | 1 => [] | 2 => [1, 5, 8, 11, 13, 14] | 3 => [2, 6, 9, 12, 15] | 4 => [] | 5 => [3]

theorem src_of_handed (k : Fin 6) (t : Fin 16) (h : t ∈ handed k) (c : Dev nD) : src t c = sigTo k c := by
  revert k t c; decide +kernel

/-! ## The program's device numbers and offsets -/

theorem dev1_eq (c : Dev nD) : (⟨k0_dev1 c, k0_dev1_lt c⟩ : Dev nD) = sigTo 0 c := by revert c; decide +kernel
theorem dev2_eq (c : Dev nD) : (⟨k0_dev2 c, k0_dev2_lt c⟩ : Dev nD) = sigTo 1 c := by revert c; decide +kernel
theorem dev3_eq (c : Dev nD) : (⟨k0_dev3 c, k0_dev3_lt c⟩ : Dev nD) = sigTo 2 c := by revert c; decide +kernel
theorem dev4_eq (c : Dev nD) : (⟨k0_dev4 c, k0_dev4_lt c⟩ : Dev nD) = sigTo 3 c := by revert c; decide +kernel
theorem dev5_eq (c : Dev nD) : (⟨k0_dev5 c, k0_dev5_lt c⟩ : Dev nD) = sigTo 4 c := by revert c; decide +kernel
theorem dev6_eq (c : Dev nD) : (⟨k0_dev6 c, k0_dev6_lt c⟩ : Dev nD) = sigTo 5 c := by revert c; decide +kernel
theorem dev7_eq (c : Dev nD) : (⟨k0_dev7 c, k0_dev7_lt c⟩ : Dev nD) = dst 0 c := by revert c; decide +kernel
theorem dev8_eq (c : Dev nD) : (⟨k0_dev8 c, k0_dev8_lt c⟩ : Dev nD) = dst 1 c := by revert c; decide +kernel
theorem dev9_eq (c : Dev nD) : (⟨k0_dev9 c, k0_dev9_lt c⟩ : Dev nD) = dst 2 c := by revert c; decide +kernel
theorem dev10_eq (c : Dev nD) : (⟨k0_dev10 c, k0_dev10_lt c⟩ : Dev nD) = dst 3 c := by revert c; decide +kernel
theorem dev11_eq (c : Dev nD) : (⟨k0_dev11 c, k0_dev11_lt c⟩ : Dev nD) = dst 4 c := by revert c; decide +kernel
theorem dev12_eq (c : Dev nD) : (⟨k0_dev12 c, k0_dev12_lt c⟩ : Dev nD) = dst 5 c := by revert c; decide +kernel
theorem dev13_eq (c : Dev nD) : (⟨k0_dev13 c, k0_dev13_lt c⟩ : Dev nD) = dst 6 c := by revert c; decide +kernel
theorem dev14_eq (c : Dev nD) : (⟨k0_dev14 c, k0_dev14_lt c⟩ : Dev nD) = dst 7 c := by revert c; decide +kernel
theorem dev15_eq (c : Dev nD) : (⟨k0_dev15 c, k0_dev15_lt c⟩ : Dev nD) = dst 8 c := by revert c; decide +kernel
theorem dev16_eq (c : Dev nD) : (⟨k0_dev16 c, k0_dev16_lt c⟩ : Dev nD) = dst 9 c := by revert c; decide +kernel
theorem dev17_eq (c : Dev nD) : (⟨k0_dev17 c, k0_dev17_lt c⟩ : Dev nD) = dst 10 c := by revert c; decide +kernel
theorem dev18_eq (c : Dev nD) : (⟨k0_dev18 c, k0_dev18_lt c⟩ : Dev nD) = dst 11 c := by revert c; decide +kernel
theorem dev19_eq (c : Dev nD) : (⟨k0_dev19 c, k0_dev19_lt c⟩ : Dev nD) = dst 12 c := by revert c; decide +kernel
theorem dev20_eq (c : Dev nD) : (⟨k0_dev20 c, k0_dev20_lt c⟩ : Dev nD) = dst 13 c := by revert c; decide +kernel
theorem dev21_eq (c : Dev nD) : (⟨k0_dev21 c, k0_dev21_lt c⟩ : Dev nD) = dst 14 c := by revert c; decide +kernel
theorem dev22_eq (c : Dev nD) : (⟨k0_dev22 c, k0_dev22_lt c⟩ : Dev nD) = dst 15 c := by revert c; decide +kernel

/-- A row offset of the 2048 × 2048 arrays, in pieces and in quarters. -/
def poff (p : Fin 16) : Fin 2 → Nat := ![128 * p.val, 0]
def qoff (q : Fin 4) : Fin 2 → Nat := ![512 * q.val, 0]

set_option backward.proofsInPublic true in
/-- The quarter of device `c`. -/
def qr (c : Dev nD) : Fin 4 := ⟨c.val / 4, by have := c.isLt; unfold nD at *; omega⟩

theorem off1_own (c : Dev nD) : k0_off1 c 1#32 = poff (pc c 0) := by revert c; decide +kernel
theorem off1_left (c : Dev nD) : k0_off1 c 2#32 = poff (pc (right c) 0) := by revert c; decide +kernel
theorem off2_eq (c : Dev nD) : k0_off2 c = ![0, 128 * (pc c 0).val, 0] := by revert c; decide +kernel
theorem off3_eq (c : Dev nD) : k0_off3 c = poff (pc c 0) := by revert c; decide +kernel
theorem off4_0 (c : Dev nD) : k0_off4 c 0#32 = poff (pc c 0) := by revert c; decide +kernel
theorem off4_1 (c : Dev nD) : k0_off4 c 1#32 = poff (pc c 1) := by revert c; decide +kernel
theorem off4_2 (c : Dev nD) : k0_off4 c 2#32 = poff (pc c 2) := by revert c; decide +kernel
theorem off5_0 (c : Dev nD) : k0_off5 c 0#32 = poff (pc c 1) := by revert c; decide +kernel
theorem off5_1 (c : Dev nD) : k0_off5 c 1#32 = poff (pc c 2) := by revert c; decide +kernel
theorem off5_2 (c : Dev nD) : k0_off5 c 2#32 = poff (pc c 3) := by revert c; decide +kernel
theorem off9_0 (c : Dev nD) : k0_off9 c 0#32 = poff (pc (yn c) 0) := by revert c; decide +kernel
theorem off9_1 (c : Dev nD) : k0_off9 c 1#32 = poff (pc (yn c) 1) := by revert c; decide +kernel
theorem off11_eq (c : Dev nD) : k0_off11 c = poff (pc (xn c) 2) := by revert c; decide +kernel
theorem off6_eq (c : Dev nD) : k0_off6 c = qoff (qr c) := by revert c; decide +kernel
theorem off7_eq (c : Dev nD) : k0_off7 c = qoff (qr c) := by revert c; decide +kernel
theorem off12_eq (c : Dev nD) : k0_off12 c = qoff (qr (xn c)) := by revert c; decide +kernel
theorem off13_eq (c : Dev nD) : k0_off13 c = qoff (qr (xn c)) := by revert c; decide +kernel
theorem off14_eq (c : Dev nD) : k0_off14 c = qoff (qr (yn c)) := by revert c; decide +kernel
theorem off15_eq (c : Dev nD) : k0_off15 c = qoff (qr (yn c)) := by revert c; decide +kernel
theorem off17_eq (c : Dev nD) : k0_off17 c = qoff (qr (xn (yn c))) := by revert c; decide +kernel
theorem off18_eq (c : Dev nD) : k0_off18 c = qoff (qr (xn (yn c))) := by revert c; decide +kernel

end Cert.KernelIdeal.Run

end
-- ==== Proof.Contents.lean ====
/-
# The buffers' parts and what they hold

The parts of the buffers the kernel works on — pieces and quarters of the 2048 rows, the two slots of the hop's buffer
and of the output strips — as sets of elements, and the contents each comes to hold: `C0 c` what the hop carries from
device `c`, `comm1 c` device `c`'s running sum after it, `own c` the normalised rows of the piece device `c` works
out, `G` the gathered rows — the same on every device —, `Out` the result.
-/
module

public import proofs.«01_k».proof.Proof.Mesh
public import Idealize.ShloMosaic.Lib.Pipeline.Kit
public import Idealize.ShloMosaic.Lib.Memref

@[expose] public section

noncomputable section

namespace Cert.KernelIdeal.Run

open Cert.KernelIdeal Cert.KernelIdeal.Gen
open Idealize.ShloMosaic Idealize.ShloMosaic.TcCoe

variable {F : FTy → Type} [FloatOps F]

/-! ## The buffers -/

abbrev ringM : Memref sig .tc .hbm S2048x2048 .f32 := Memref.whole main_arg0
abbrev partM : Memref sig .tc .hbm S1x2048x2048 .f32 := Memref.whole main_arg1
abbrev resM : Memref sig .tc .hbm S2048x2048 .f32 := Memref.whole main_arg2
abbrev gamM : Memref sig .tc .vmem S1x2048 .f32 := Memref.whole cc0_stg0_0
abbrev outM : Memref sig .tc .hbm S2048x2048 .f32 := Memref.whole main_v1
abbrev stageM : Memref sig .tc .vmem S128x2048 .f32 := Memref.whole cc0_scratch0
abbrev commM : Memref sig .tc .vmem S2x128x2048 .bf16 := Memref.whole cc0_scratch1
abbrev allM : Memref sig .tc .vmem S2048x2048 .bf16 := Memref.whole cc0_scratch2
abbrev stripM : Memref sig .tc .vmem S2x512x2048 .f32 := Memref.whole cc0_scratch3

/-! ## Pieces and quarters of the rows -/

theorem poff_inb (p : Fin 16) : ∀ a, poff p a + S128x2048.size a ≤ S2048x2048.size a := by revert p; decide +kernel
theorem qoff_inb (q : Fin 4) : ∀ a, qoff q a + S512x2048.size a ≤ S2048x2048.size a := by revert q; decide +kernel
theorem poff3_inb (p : Fin 16) : ∀ a, (![0, 128 * p.val, 0] : Fin 3 → Nat) a + S1x128x2048.size a ≤ S1x2048x2048.size a := by revert p; decide +kernel

abbrev prect (p : Fin 16) : Rect S2048x2048 := Rect.unit (s := S2048x2048) (poff p) S128x2048.size (poff_inb p)
abbrev qrect (q : Fin 4) : Rect S2048x2048 := Rect.unit (s := S2048x2048) (qoff q) S512x2048.size (qoff_inb q)

/-- The rows of piece `p`, the rows of quarter `q`. -/
def pset (p : Fin 16) : Finset S2048x2048.Idx := (prect p).set
def qset (q : Fin 4) : Finset S2048x2048.Idx := (qrect q).set

theorem mem_pset {p : Fin 16} {i : S2048x2048.Idx} : i ∈ pset p ↔ (i 0).val / 128 = p.val := by
  unfold pset
  rw [Rect.mem_set_unit]
  constructor
  · intro h
    have h0 := h 0
    simp only [poff, Matrix.cons_val_zero] at h0
    change 128 * p.val ≤ (i 0).val ∧ (i 0).val < 128 * p.val + 128 at h0
    omega
  · intro h a
    have h1 : (i 1).val < 2048 := (i 1).isLt
    match a with
    | ⟨0, _⟩ => show 128 * p.val ≤ (i 0).val ∧ (i 0).val < 128 * p.val + 128; omega
    | ⟨1, _⟩ => show 0 ≤ (i 1).val ∧ (i 1).val < 0 + 2048; omega

theorem mem_qset {q : Fin 4} {i : S2048x2048.Idx} : i ∈ qset q ↔ (i 0).val / 512 = q.val := by
  unfold qset
  rw [Rect.mem_set_unit]
  constructor
  · intro h
    have h0 := h 0
    simp only [qoff, Matrix.cons_val_zero] at h0
    change 512 * q.val ≤ (i 0).val ∧ (i 0).val < 512 * q.val + 512 at h0
    omega
  · intro h a
    have h1 : (i 1).val < 2048 := (i 1).isLt
    match a with
    | ⟨0, _⟩ => show 512 * q.val ≤ (i 0).val ∧ (i 0).val < 512 * q.val + 512; omega
    | ⟨1, _⟩ => show 0 ≤ (i 1).val ∧ (i 1).val < 0 + 2048; omega

theorem pset_disjoint {p p' : Fin 16} (h : p ≠ p') : Disjoint (pset p) (pset p') :=
  Finset.disjoint_left.mpr fun i hi hi' => h (Fin.ext ((mem_pset.mp hi).symm.trans (mem_pset.mp hi')))
theorem qset_disjoint {q q' : Fin 4} (h : q ≠ q') : Disjoint (qset q) (qset q') :=
  Finset.disjoint_left.mpr fun i hi hi' => h (Fin.ext ((mem_qset.mp hi).symm.trans (mem_qset.mp hi')))

theorem row_lt (i : S2048x2048.Idx) : (i 0).val < 2048 := (i 0).isLt
theorem col_lt (i : S2048x2048.Idx) : (i 1).val < 2048 := (i 1).isLt

/-- Every element lies in some piece, -/
theorem pset_cover (c : Dev nD) : (Finset.univ : Finset S2048x2048.Idx) = Finset.univ.biUnion fun t : Fin 16 => pset (got t c) := by
  refine Finset.eq_of_subset_of_card_le (fun i _ => ?_) (Finset.card_le_card (Finset.subset_univ _))
  obtain ⟨t, ht⟩ := got_surjective c ⟨(i 0).val / 128, by have := row_lt i; omega⟩
  exact Finset.mem_biUnion.mpr ⟨t, Finset.mem_univ _, mem_pset.mpr (by dsimp only at ht; rw [ht])⟩
/-- and in some quarter; -/
theorem qset_cover : (Finset.univ : Finset S2048x2048.Idx) = Finset.univ.biUnion qset := by
  refine Finset.eq_of_subset_of_card_le (fun i _ => ?_) (Finset.card_le_card (Finset.subset_univ _))
  exact Finset.mem_biUnion.mpr ⟨⟨(i 0).val / 512, by have := row_lt i; omega⟩, Finset.mem_univ _, mem_qset.mpr rfl⟩
/-- and a quarter is its four pieces. -/
theorem qset_pieces (c : Dev nD) : qset (qr c) = Finset.univ.biUnion fun k : Fin 4 => pset (pc c k) := by
  ext i
  rw [mem_qset, Finset.mem_biUnion]
  have hsur : ∀ c : Dev nD, ∀ p : Fin 16, p.val / 4 = (qr c).val → ∃ k, pc c k = p := by decide +kernel
  have hq : ∀ c : Dev nD, ∀ k : Fin 4, (pc c k).val / 4 = (qr c).val := by decide +kernel
  constructor
  · intro h
    obtain ⟨k, hk⟩ := hsur c ⟨(i 0).val / 128, by have := row_lt i; omega⟩ (by show (i 0).val / 128 / 4 = _; omega)
    exact ⟨k, Finset.mem_univ _, mem_pset.mpr (by rw [hk])⟩
  · rintro ⟨k, -, hk⟩
    have := mem_pset.mp hk
    have := hq c k
    omega
theorem pc_injective (c : Dev nD) : Function.Injective (pc c) := by
  have h : ∀ c : Dev nD, ∀ k k' : Fin 4, pc c k = pc c k' → k = k' := by decide +kernel
  exact fun k k' => h c k k'

/-- The element of piece `p` (of quarter `q`) at an index of its own. -/
def pemb (p : Fin 16) (j : S128x2048.Idx) : S2048x2048.Idx := (prect p).emb j
def qemb (q : Fin 4) (j : S512x2048.Idx) : S2048x2048.Idx := (qrect q).emb j
theorem pemb_0 (p : Fin 16) (j : S128x2048.Idx) : (pemb p j 0).val = 128 * p.val + (j 0).val := by
  show poff p 0 + 1 * (j 0).val = _; simp [poff]
theorem pemb_1 (p : Fin 16) (j : S128x2048.Idx) : (pemb p j 1).val = (j 1).val := by
  show poff p 1 + 1 * (j 1).val = _; simp [poff]
theorem qemb_0 (q : Fin 4) (j : S512x2048.Idx) : (qemb q j 0).val = 512 * q.val + (j 0).val := by
  show qoff q 0 + 1 * (j 0).val = _; simp [qoff]
theorem qemb_1 (q : Fin 4) (j : S512x2048.Idx) : (qemb q j 1).val = (j 1).val := by
  show qoff q 1 + 1 * (j 1).val = _; simp [qoff]
/-- The row of the block of partial sums. -/
def p3emb (p : Fin 16) (j : S128x2048.Idx) : S1x2048x2048.Idx := fun a =>
  match a with
  | ⟨0, _⟩ => ⟨0, Nat.one_pos⟩
  | ⟨1, _⟩ => ⟨128 * p.val + (j 0).val, by have : (j 0).val < 128 := (j 0).isLt; have := p.isLt; show _ < 2048; omega⟩
  | ⟨2, _⟩ => ⟨(j 1).val, (j 1).isLt⟩

/-- An element's piece, and its place there; its quarter, and its place there. -/
def ofRow (i : S2048x2048.Idx) : Fin 16 := ⟨(i 0).val / 128, by have := row_lt i; omega⟩
def inP (i : S2048x2048.Idx) : S128x2048.Idx := fun a =>
  match a with
  | ⟨0, _⟩ => ⟨(i 0).val % 128, by show _ < 128; omega⟩
  | ⟨1, _⟩ => ⟨(i 1).val, (i 1).isLt⟩
def ofRowQ (i : S2048x2048.Idx) : Fin 4 := ⟨(i 0).val / 512, by have := row_lt i; omega⟩
/-- at the strips' shape, with a leading coordinate zero. -/
def inQ (i : S2048x2048.Idx) : S1x512x2048.Idx := fun a =>
  match a with
  | ⟨0, _⟩ => ⟨0, Nat.one_pos⟩
  | ⟨1, _⟩ => ⟨(i 0).val % 512, by show _ < 512; omega⟩
  | ⟨2, _⟩ => ⟨(i 1).val, (i 1).isLt⟩

theorem ofRow_pemb (p : Fin 16) (j : S128x2048.Idx) : ofRow (pemb p j) = p := by
  have : (j 0).val < 128 := (j 0).isLt
  refine Fin.ext ?_; show (pemb p j 0).val / 128 = _; rw [pemb_0]; omega
theorem inP_pemb (p : Fin 16) (j : S128x2048.Idx) : inP (pemb p j) = j := by
  have : (j 0).val < 128 := (j 0).isLt
  funext a
  match a with
  | ⟨0, _⟩ => refine Fin.ext ?_; show (pemb p j 0).val % 128 = (j 0).val; rw [pemb_0]; omega
  | ⟨1, _⟩ => refine Fin.ext ?_; show (pemb p j 1).val = (j 1).val; exact pemb_1 p j
theorem ofRowQ_qemb (q : Fin 4) (j : S512x2048.Idx) : ofRowQ (qemb q j) = q := by
  have : (j 0).val < 512 := (j 0).isLt
  refine Fin.ext ?_; show (qemb q j 0).val / 512 = _; rw [qemb_0]; omega

/-! ## The slots -/

abbrev cinb (k : Fin 2) : ∀ a, (![k.val, 0, 0] : Fin 3 → Nat) a + S1x128x2048.size a ≤ S2x128x2048.size a := by revert k; decide +kernel
abbrev oinb (k : Fin 2) : ∀ a, (![k.val, 0, 0] : Fin 3 → Nat) a + S1x512x2048.size a ≤ S2x512x2048.size a := by revert k; decide +kernel
abbrev crect (k : Fin 2) : Rect S2x128x2048 := Rect.unit (s := S2x128x2048) ![k.val, 0, 0] S1x128x2048.size (cinb k)
abbrev orect (k : Fin 2) : Rect S2x512x2048 := Rect.unit (s := S2x512x2048) ![k.val, 0, 0] S1x512x2048.size (oinb k)
def cset (k : Fin 2) : Finset S2x128x2048.Idx := (crect k).set
def oset (k : Fin 2) : Finset S2x512x2048.Idx := (orect k).set

theorem mem_cset {k : Fin 2} {i : S2x128x2048.Idx} : i ∈ cset k ↔ (i 0).val = k.val := by
  unfold cset
  rw [Rect.mem_set_unit]
  constructor
  · intro h
    have h0 := h 0
    change k.val ≤ (i 0).val ∧ (i 0).val < k.val + 1 at h0
    omega
  · intro h a
    have h1 : (i 1).val < 128 := (i 1).isLt
    have h2 : (i 2).val < 2048 := (i 2).isLt
    match a with
    | ⟨0, _⟩ => show k.val ≤ (i 0).val ∧ (i 0).val < k.val + 1; omega
    | ⟨1, _⟩ => show 0 ≤ (i 1).val ∧ (i 1).val < 0 + 128; omega
    | ⟨2, _⟩ => show 0 ≤ (i 2).val ∧ (i 2).val < 0 + 2048; omega
theorem mem_oset {k : Fin 2} {i : S2x512x2048.Idx} : i ∈ oset k ↔ (i 0).val = k.val := by
  unfold oset
  rw [Rect.mem_set_unit]
  constructor
  · intro h
    have h0 := h 0
    change k.val ≤ (i 0).val ∧ (i 0).val < k.val + 1 at h0
    omega
  · intro h a
    have h1 : (i 1).val < 512 := (i 1).isLt
    have h2 : (i 2).val < 2048 := (i 2).isLt
    match a with
    | ⟨0, _⟩ => show k.val ≤ (i 0).val ∧ (i 0).val < k.val + 1; omega
    | ⟨1, _⟩ => show 0 ≤ (i 1).val ∧ (i 1).val < 0 + 512; omega
    | ⟨2, _⟩ => show 0 ≤ (i 2).val ∧ (i 2).val < 0 + 2048; omega

theorem cset_disjoint : Disjoint (cset 0) (cset 1) :=
  Finset.disjoint_left.mpr fun i hi hi' => by have h0 := mem_cset.mp hi; have h1 := mem_cset.mp hi'; rw [h0] at h1; exact absurd h1 (by decide)
theorem oset_disjoint : Disjoint (oset 0) (oset 1) :=
  Finset.disjoint_left.mpr fun i hi hi' => by have h0 := mem_oset.mp hi; have h1 := mem_oset.mp hi'; rw [h0] at h1; exact absurd h1 (by decide)
theorem cset_cover : (Finset.univ : Finset S2x128x2048.Idx) = cset 0 ∪ cset 1 := by
  refine Finset.eq_of_subset_of_card_le (fun i _ => ?_) (Finset.card_le_card (Finset.subset_univ _))
  have : (i 0).val < 2 := (i 0).isLt
  rcases (show (i 0).val = 0 ∨ (i 0).val = 1 by omega) with h | h
  · exact Finset.mem_union_left _ (mem_cset.mpr h)
  · exact Finset.mem_union_right _ (mem_cset.mpr h)
theorem oset_cover : (Finset.univ : Finset S2x512x2048.Idx) = oset 0 ∪ oset 1 := by
  refine Finset.eq_of_subset_of_card_le (fun i _ => ?_) (Finset.card_le_card (Finset.subset_univ _))
  have : (i 0).val < 2 := (i 0).isLt
  rcases (show (i 0).val = 0 ∨ (i 0).val = 1 by omega) with h | h
  · exact Finset.mem_union_left _ (mem_oset.mpr h)
  · exact Finset.mem_union_right _ (mem_oset.mpr h)

/-! ## The program's memrefs of these parts -/

/-- Piece `p` of the gathered rows, slot `k` of the hop's buffer and of the strips, quarter `q` of the result. -/
abbrev pieceM (p : Fin 16) : Memref sig .tc .vmem S128x2048 .bf16 := allM.slice (prect p) (fun _ => rfl)
abbrev slotM (k : Fin 2) : Memref sig .tc .vmem S128x2048 .bf16 := (commM.slice (crect k) (fun _ => rfl)).squeeze S128x2048 squeezes_S1x128x2048_S128x2048
abbrev oslotM (k : Fin 2) : Memref sig .tc .vmem S512x2048 .f32 := (stripM.slice (orect k) (fun _ => rfl)).squeeze S512x2048 squeezes_S1x512x2048_S512x2048
abbrev quarterM (q : Fin 4) : Memref sig .tc .hbm S512x2048 .f32 := outM.slice (qrect q) (fun _ => rfl)

theorem piece_set (p : Fin 16) : (pieceM p).view.set = pset p := View.set_slice_whole _ _
theorem quarter_set (q : Fin 4) : (quarterM q).view.set = qset q := View.set_slice_whole _ _
theorem slot_set (k : Fin 2) : (slotM k).view.set = cset k := (View.set_reshape _ _).trans (View.set_slice_whole _ _)
theorem oslot_set (k : Fin 2) : (oslotM k).view.set = oset k := (View.set_reshape _ _).trans (View.set_slice_whole _ _)

/-! ## The contents -/

variable (m : (ℓ : Loc nD τ sig) → Buf (Elt F) ℓ)

/-- The argument arrays of device `c`. -/
def a0 (c : Dev nD) : (main_arg0 : Ref sig .tc).ty.Contents (Elt F) := m ((c : Thread nD τ).loc main_arg0)
def a1 (c : Dev nD) : (main_arg1 : Ref sig .tc).ty.Contents (Elt F) := m ((c : Thread nD τ).loc main_arg1)
def a2 (c : Dev nD) : (main_arg2 : Ref sig .tc).ty.Contents (Elt F) := m ((c : Thread nD τ).loc main_arg2)
def a3 (c : Dev nD) : (main_arg3 : Ref sig .tc).ty.Contents (Elt F) := m ((c : Thread nD τ).loc main_arg3)

/-- What the hop carries from device `c`: the running sums of the piece its right neighbour works out. -/
def C0 (c : Dev nD) : FVec F S1x128x2048 .bf16 := k0_pay1 fun j => a0 m c (pemb (pc (right c) 0) j)
/-- Device `c`'s running sums with its own partial sums added: complete. -/
def comm1 (c : Dev nD) : FVec F S1x128x2048 .bf16 := k0_pay2 (C0 m (left c)) fun j => a1 m c (p3emb (pc c 0) j)
/-- The rows device `c` works out: residual added, normalised, scaled. -/
def own (c : Dev nD) : FVec F S128x2048 .bf16 := k0_pay4 (k0_pay3 (comm1 m c) (fun j => a2 m c (pemb (pc c 0) j)) (a3 m c))

/-- The gathered rows. -/
def G : (cc0_scratch2 : Ref sig .tc).ty.Contents (Elt F) := fun i => own m (owner (ofRow i)) (inP i)
/-- The result. -/
def Out : (main_v1 : Ref sig .tc).ty.Contents (Elt F) := fun i => k0_pay5 (fun j => G m (qemb (ofRowQ i) j)) (inQ i)

/-- An element of a slot, without the slot's number. -/
def inC (i : S2x128x2048.Idx) : S1x128x2048.Idx := fun a =>
  match a with
  | ⟨0, _⟩ => ⟨0, Nat.one_pos⟩
  | ⟨1, _⟩ => ⟨(i 1).val, (i 1).isLt⟩
  | ⟨2, _⟩ => ⟨(i 2).val, (i 2).isLt⟩

/-- The hop's buffer before the addition: what the device sends in slot 0, what its left neighbour sent in slot 1. -/
def commC (c : Dev nD) : (cc0_scratch1 : Ref sig .tc).ty.Contents (Elt F) := fun i =>
  if (i 0).val = 0 then C0 m c (inC i) else C0 m (left c) (inC i)

theorem G_pemb (p : Fin 16) (j : S128x2048.Idx) : G m (pemb p j) = own m (owner p) j := by
  unfold G; rw [ofRow_pemb, inP_pemb]

end Cert.KernelIdeal.Run

end
-- ==== Proof.Lands.lean ====
/-
# What is read, written and landed through the program's memrefs

Each load, store and transfer of the kernel at the contents of `Contents.lean`: a transfer of a piece of `G` leaves the
piece of `G`; the store of the device's own rows leaves its piece of `G`; the hop moves slot 0 to the neighbour's slot
1; a strip's transfer leaves its quarter of `Out`.
-/
module

public import proofs.«01_k».proof.Proof.Contents

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]
variable (m : (ℓ : Loc nD τ sig) → Buf (Elt F) ℓ)

/-- An index of a two-dimensional part behind the coordinate `0`. -/
def lead (j : S128x2048.Idx) : S1x128x2048.Idx := Fin.cons ⟨0, Nat.one_pos⟩ j
def leadQ (j : S512x2048.Idx) : S1x512x2048.Idx := Fin.cons ⟨0, Nat.one_pos⟩ j

theorem lead_eq (h : S128x2048.numel = S1x128x2048.numel) (j : S128x2048.Idx) : Shape.reshapeEquiv h j = lead j :=
  Shape.reshapeEquiv_cons_one (d := S128x2048.size) h j
theorem leadQ_eq (h : S512x2048.numel = S1x512x2048.numel) (j : S512x2048.Idx) : Shape.reshapeEquiv h j = leadQ j :=
  Shape.reshapeEquiv_cons_one (d := S512x2048.size) h j

theorem lead_surj (j : S1x128x2048.Idx) : ∃ j', lead j' = j :=
  ⟨Fin.tail j, by
    have h0 : (j 0).val < 1 := (j 0).isLt
    funext a
    refine Fin.cases ?_ (fun b => ?_) a
    · exact Fin.ext (by show 0 = (j 0).val; omega)
    · rfl⟩
theorem leadQ_surj (j : S1x512x2048.Idx) : ∃ j', leadQ j' = j :=
  ⟨Fin.tail j, by
    have h0 : (j 0).val < 1 := (j 0).isLt
    funext a
    refine Fin.cases ?_ (fun b => ?_) a
    · exact Fin.ext (by show 0 = (j 0).val; omega)
    · rfl⟩

/-! ## Pieces -/

theorem piece_read (p : Fin 16) : (pieceM p).view.read (Elt F) (G m) = own m (owner p) :=
  funext fun j => G_pemb m p j

theorem piece_land (p : Fin 16) (fd : (cc0_scratch2 : Ref sig .tc).ty.Contents (Elt F)) :
    ∀ i ∈ pset p, (pieceM p).view.write (Elt F) fd ((pieceM p).view.read (Elt F) (G m)) Finset.univ i = G m i := by
  intro i hi
  have hs : (pieceM p).view.set = pset p := View.set_slice_whole _ _
  have hi' : i ∈ (pieceM p).view.set := by rw [hs]; exact hi
  obtain ⟨j, -, rfl⟩ := Finset.mem_map.mp hi'
  exact View.write_emb_of_mem (v := (pieceM p).view) fd _ (Finset.mem_univ j)

theorem piece_store (c : Dev nD) (fd : (cc0_scratch2 : Ref sig .tc).ty.Contents (Elt F)) :
    ∀ i ∈ pset (pc c 0), (allM.access (prect (pc c 0))).write (Elt F) fd (own m c) Finset.univ i = G m i := by
  intro i hi
  have hs : (allM.access (prect (pc c 0))).set = pset (pc c 0) := View.set_slice_whole _ _
  have hi' : i ∈ (allM.access (prect (pc c 0))).set := by rw [hs]; exact hi
  obtain ⟨j, -, rfl⟩ := Finset.mem_map.mp hi'
  refine (View.write_emb_of_mem (v := allM.access (prect (pc c 0))) fd _ (Finset.mem_univ j)).trans ?_
  refine Eq.trans ?_ (G_pemb m (pc c 0) j).symm
  rw [owner_pc]; rfl

/-! ## The hop -/

theorem commC_0 (c : Dev nD) (j : S1x128x2048.Idx) : commC m c ((crect 0).emb j) = C0 m c j := by
  obtain ⟨j, rfl⟩ := lead_surj j
  unfold commC
  rw [if_pos (show ((crect 0).emb (lead j) 0).val = 0 from rfl)]
  refine congrArg (C0 m c) (funext fun a => ?_)
  match a with
  | ⟨0, _⟩ => rfl
  | ⟨1, _⟩ => exact Fin.ext (show 0 + 1 * (j 0).val = (j 0).val by omega)
  | ⟨2, _⟩ => exact Fin.ext (show 0 + 1 * (j 1).val = (j 1).val by omega)
theorem commC_1 (c : Dev nD) (j : S1x128x2048.Idx) : commC m c ((crect 1).emb j) = C0 m (left c) j := by
  obtain ⟨j, rfl⟩ := lead_surj j
  unfold commC
  rw [if_neg (show ¬ ((crect 1).emb (lead j) 0).val = 0 by show ¬ (1 + 1 * 0 = 0); decide)]
  refine congrArg (C0 m (left c)) (funext fun a => ?_)
  match a with
  | ⟨0, _⟩ => rfl
  | ⟨1, _⟩ => exact Fin.ext (show 0 + 1 * (j 0).val = (j 0).val by omega)
  | ⟨2, _⟩ => exact Fin.ext (show 0 + 1 * (j 1).val = (j 1).val by omega)

theorem slot_store (c : Dev nD) (fd : (cc0_scratch1 : Ref sig .tc).ty.Contents (Elt F)) :
    ∀ i ∈ cset 0, (commM.access (crect 0)).write (Elt F) fd (C0 m c) Finset.univ i = commC m c i := by
  intro i hi
  have hs : (commM.access (crect 0)).set = cset 0 := View.set_slice_whole _ _
  have hi' : i ∈ (commM.access (crect 0)).set := by rw [hs]; exact hi
  obtain ⟨j, -, rfl⟩ := Finset.mem_map.mp hi'
  refine (View.write_emb_of_mem (v := commM.access (crect 0)) fd _ (Finset.mem_univ j)).trans ?_
  exact (commC_0 m c j).symm

theorem slot_land (c : Dev nD) (fd : (cc0_scratch1 : Ref sig .tc).ty.Contents (Elt F)) :
    ∀ i ∈ cset 1, (slotM 1).view.write (Elt F) fd ((slotM 0).view.read (Elt F) (commC m c)) Finset.univ i = commC m (right c) i := by
  intro i hi
  have hi' : i ∈ (slotM 1).view.set := by rw [slot_set]; exact hi
  obtain ⟨j, -, rfl⟩ := Finset.mem_map.mp hi'
  refine (View.write_emb_of_mem (v := (slotM 1).view) fd _ (Finset.mem_univ j)).trans ?_
  show commC m c ((crect 0).emb (Shape.reshapeEquiv _ j)) = commC m (right c) ((crect 1).emb (Shape.reshapeEquiv _ j))
  rw [commC_0, commC_1]
  have : ∀ c : Dev nD, left (right c) = c := by decide +kernel
  rw [this c]

theorem slot_read (c : Dev nD) : (commM.access (crect 1)).read (Elt F) (commC m c) = C0 m (left c) :=
  funext fun j => commC_1 m c j

/-! ## Strips and quarters -/

theorem strip_read (k : Fin 2) (fd : (cc0_scratch3 : Ref sig .tc).ty.Contents (Elt F)) (w : FVec F S1x512x2048 .f32) :
    (oslotM k).view.read (Elt F) ((stripM.access (orect k)).write (Elt F) fd w Finset.univ) = fun j => w (leadQ j) := by
  have hr : ∀ (f : (cc0_scratch3 : Ref sig .tc).ty.Contents (Elt F)) j, (oslotM k).view.read (Elt F) f j
      = (stripM.access (orect k)).read (Elt F) f (Shape.reshapeEquiv (s' := S512x2048) (s := S1x512x2048) squeezes_S1x512x2048_S512x2048.numel_eq j) := fun _ _ => rfl
  funext j
  rw [hr, View.read_write_univ, leadQ_eq]

/-- The rows of a quarter as the strips carry them. -/
def strip (q : Fin 4) : FVec F S1x512x2048 .f32 := k0_pay5 fun j => G m (qemb q j)

theorem quarter_read (q : Fin 4) : (allM.access (qrect q)).read (Elt F) (G m) = fun j => G m (qemb q j) := rfl

theorem quarter_land (q : Fin 4) (fd : (main_v1 : Ref sig .tc).ty.Contents (Elt F)) :
    ∀ i ∈ qset q, (quarterM q).view.write (Elt F) fd (fun j => strip m q (leadQ j)) Finset.univ i = Out m i := by
  intro i hi
  have hs : (quarterM q).view.set = qset q := View.set_slice_whole _ _
  have hi' : i ∈ (quarterM q).view.set := by rw [hs]; exact hi
  obtain ⟨j, -, rfl⟩ := Finset.mem_map.mp hi'
  refine (View.write_emb_of_mem (v := (quarterM q).view) fd _ (Finset.mem_univ j)).trans ?_
  show strip m q (leadQ j) = Out m (qemb q j)
  unfold Out
  rw [ofRowQ_qemb]
  refine congrArg (strip m q) (funext fun a => ?_)
  have hj : (j 0).val < 512 := (j 0).isLt
  match a with
  | ⟨0, _⟩ => rfl
  | ⟨1, _⟩ => exact Fin.ext (show (j 0).val = (qemb q j 0).val % 512 by rw [qemb_0]; omega)
  | ⟨2, _⟩ => exact Fin.ext (show (j 1).val = (qemb q j 1).val by rw [qemb_1])

end Cert.KernelIdeal.Run

end
-- ==== Proof.Sched.lean ====
/-
# The protocol

Every counter the devices share, who pays it, how much, and what each payment hands over.

* The barrier counter of a device has six payments of one unit:
  payment `k` comes from `sigFrom k` and hands the device the places there that its transfers `t ∈ handed k` land on.
  The device waits for all six before it issues its first transfer, and then holds the landing place of every transfer.
* Transfer `t` of device `c` pays `c`'s send counter `t` and `dst t c`'s receive counter `t`, once each, the bytes of
  one piece. The send payment gives back the share of the source the transfer read; the receive payment hands over the
  landing place with its contents: the left neighbour's running sums for the hop, the piece of `G` for every other.

A device waits at a receive counter only after it has issued every transfer numbered up to it, and it waits at the
barrier owing transfers only: so barrier counters stand at level 1, receive counter `t` at level `t + 2`, all others at 0.
-/
module

public import proofs.«01_k».proof.Proof.Lands
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the pipeline's copy, the shared counters' rounds, the local transfers' counters -/

abbrev UB : Type := URounds (GSem nD τ sig) (Fin 6)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The counters -/

abbrev barS : Sem sig := (SemArray.scalar (sig.barrier 0 rfl) : Sems sig S_).sem

set_option backward.proofsInPublic true in
/-- The send and the receive counter of transfer `t`. -/
def sendIx : Fin 16 → Fin 42 := ![6, 16, 24, 40, 10, 17, 25, 11, 18, 26, 12, 19, 27, 32, 33, 36]
set_option backward.proofsInPublic true in
def recvIx : Fin 16 → Fin 42 := ![9, 20, 28, 41, 13, 21, 29, 14, 22, 30, 15, 23, 31, 34, 35, 38]
/-- Which transfer's counter a number is, and whether the receiver's. -/
def dec (i : Fin 42) : Option (Bool × Fin 16) :=
  (List.finRange 16).findSome? fun t => if sendIx t = i then some (false, t) else if recvIx t = i then some (true, t) else none

theorem dec_send (t : Fin 16) : dec (sendIx t) = some (false, t) := by revert t; decide +kernel
theorem dec_recv (t : Fin 16) : dec (recvIx t) = some (true, t) := by revert t; decide +kernel

abbrev sendS (t : Fin 16) : DmaSem sig := (sendIx t : Fin 42)
abbrev recvS (t : Fin 16) : DmaSem sig := (recvIx t : Fin 42)

/-- The shared counters: the barrier, or a transfer's. -/
abbrev KC : Type := Option (Bool × Fin 16)
def csem : KC → SemLoc sig
  | none => .reg barS
  | some (false, t) => .dma (sendS t)
  | some (true, t) => .dma (recvS t)
/-- Which of them a counter is. -/
def kindOf : SemLoc sig → Option KC
  | .reg _ => some none
  | .dma i => (dec i).map some

theorem kind_bar : kindOf (.reg barS) = some none := rfl
theorem kind_send (t : Fin 16) : kindOf (.dma (sendS t)) = some (some (false, t)) := (congrArg (Option.map some) (dec_send t) : _)
theorem kind_recv (t : Fin 16) : kindOf (.dma (recvS t)) = some (some (true, t)) := (congrArg (Option.map some) (dec_recv t) : _)
theorem kind_csem (k : KC) : kindOf (csem k) = some k := by
  rcases k with _ | ⟨_ | _, t⟩
  · rfl
  · exact kind_send t
  · exact kind_recv t

abbrev barCell (c : Dev nD) : GSem nD τ sig := ((c : Thread nD τ), .reg barS)
abbrev sendCell (t : Fin 16) (c : Dev nD) : GSem nD τ sig := ((c : Thread nD τ), .dma (sendS t))
abbrev recvCell (t : Fin 16) (c : Dev nD) : GSem nD τ sig := ((c : Thread nD τ), .dma (recvS t))
abbrev kcell (ck : Dev nD × KC) : GSem nD τ sig := ((ck.1 : Thread nD τ), csem ck.2)

theorem kcell_injective : Function.Injective kcell := by
  rintro ⟨c, k⟩ ⟨c', k'⟩ h
  obtain ⟨h1, h2⟩ := Prod.mk.inj h
  have hc : c = c' := congrArg Prod.fst h1
  have hk : k = k' := by
    have := congrArg kindOf h2
    rw [kind_csem, kind_csem] at this
    exact Option.some.inj this
  rw [hc, hk]

/-- The bytes of one piece. -/
abbrev N : ℕ := (pieceM 0).view.dmaCredit
theorem N_pos : 0 < N := View.dmaCredit_pos _ (by decide)
theorem credit_piece (p : Fin 16) : (pieceM p).view.dmaCredit = N := rfl
theorem credit_slot (k : Fin 2) : (slotM k).view.dmaCredit = N := rfl

/-! ## The shares of a piece: one for the loads, one for each family of transfers -/

abbrev KSh : PosShare TreeShare := (fullShare : PosShare TreeShare).right
abbrev LSh : PosShare TreeShare := (fullShare : PosShare TreeShare).left
/-- The share of its source that transfer `t` reads with. -/
def shr (t : Fin 16) : PosShare TreeShare :=
  match t with
  | 0 => fullShare
  | 4 | 7 | 10 => LSh.left.left
  | 1 | 5 | 8 | 11 => LSh.left.right
  | 2 | 6 | 9 | 12 => LSh.right.left
  | 3 => LSh.right.right
  | _ => LSh

/-! ## What the payments hand over -/

variable (m : (ℓ : Loc nD τ sig) → Buf (Elt F) ℓ)

/-- Rows of the gathered buffer, a slot of the hop's buffer. -/
abbrev allP (c : Dev nD) (S : Finset S2048x2048.Idx) (q : PosShare TreeShare) (f : (cc0_scratch2 : Ref sig .tc).ty.Contents (Elt F)) : sProp 𝕄 :=
  (allM.view.loc (c : Thread nD τ)) ↦[S]{q} f
abbrev commP (c : Dev nD) (S : Finset S2x128x2048.Idx) (q : PosShare TreeShare) (f : (cc0_scratch1 : Ref sig .tc).ty.Contents (Elt F)) : sProp 𝕄 :=
  (commM.view.loc (c : Thread nD τ)) ↦[S]{q} f

/-- The place on `c` that transfer `t` lands on, at any contents. -/
def landAt (t : Fin 16) (c : Dev nD) (p : Fin 16) : sProp 𝕄 :=
  if t = 0 then iprop(∃ f, commP (F := F) c (cset 1) fullShare f) else iprop(∃ f, allP (F := F) c (pset p) fullShare f)
/-- The landing place of `c`'s transfer `t`. -/
def land (t : Fin 16) (c : Dev nD) : sProp 𝕄 := landAt (F := F) t (dst t c) (sent t c)
/-- What payment `k` of `c`'s barrier hands over. -/
def barPay (c : Dev nD) (k : Fin 6) : sProp 𝕄 := bigSep (handed k).toFinset fun t => land (F := F) t c
def recvPay (t : Fin 16) (c : Dev nD) : sProp 𝕄 :=
  if t = 0 then commP c (cset 1) fullShare (commC m c) else allP c (pset (got t c)) fullShare (G m)
def sendPay (t : Fin 16) (c : Dev nD) : sProp 𝕄 :=
  if t = 0 then commP c (cset 0) fullShare (commC m c) else allP c (pset (sent t c)) (shr t) (G m)

instance landAt_storable (t : Fin 16) (c : Dev nD) (p : Fin 16) : BI.Storable (upEmb : UEmb _ 𝕄) (landAt (F := F) t c p) := by
  unfold landAt; split <;> infer_instance
instance land_storable (t : Fin 16) (c : Dev nD) : BI.Storable (upEmb : UEmb _ 𝕄) (land (F := F) t c) := by
  unfold land; infer_instance
instance recvPay_storable (t : Fin 16) (c : Dev nD) : BI.Storable (upEmb : UEmb _ 𝕄) (recvPay m t c) := by
  unfold recvPay; split <;> infer_instance
instance sendPay_storable (t : Fin 16) (c : Dev nD) : BI.Storable (upEmb : UEmb _ 𝕄) (sendPay m t c) := by
  unfold sendPay; split <;> infer_instance
instance barPay_storable (c : Dev nD) (k : Fin 6) : BI.Storable (upEmb : UEmb _ 𝕄) (barPay (F := F) c k) := by
  unfold barPay; infer_instance

/-- One round: six payments of a unit at a barrier, one of a piece's bytes at a transfer's counter. -/
def Rd : Rounds.Schedule (GSem nD τ sig) (Fin 6) 𝕄 where
  duties g r := if r = 0 ∧ g.1.2 = .tc then (match kindOf g.2 with | some none => Finset.univ | some (some _) => {0} | none => ∅) else ∅
  unitless _ := False
  amount g _ _ := match kindOf g.2 with | some none => 1 | _ => N
  payload g _ d := match kindOf g.2 with
    | some none => barPay g.1.1 d
    | some (some (true, t)) => recvPay m t g.1.1
    | some (some (false, t)) => sendPay m t g.1.1
    | none => iprop(emp)
  amount_pos g _ _ _ := by
    split
    · exact Nat.one_pos
    · exact N_pos

instance Rd_payload_storable (g : GSem nD τ sig) (r : ℕ) (d : Fin 6) : BI.Storable (upEmb : UEmb _ 𝕄) ((Rd m).payload g r d) := by
  show BI.Storable upEmb (match kindOf g.2 with
    | some none => barPay g.1.1 d
    | some (some (true, t)) => recvPay m t g.1.1
    | some (some (false, t)) => sendPay m t g.1.1
    | none => iprop(emp))
  split <;> infer_instance

section Tables
variable (c : Dev nD) (t : Fin 16)

theorem duties_bar : (Rd m).duties (barCell c) 0 = Finset.univ := by
  dsimp only [Rd]; rw [if_pos ⟨rfl, rfl⟩, kind_bar]
theorem duties_send : (Rd m).duties (sendCell t c) 0 = {0} := by
  dsimp only [Rd]; rw [if_pos ⟨rfl, rfl⟩, kind_send]
theorem duties_recv : (Rd m).duties (recvCell t c) 0 = {0} := by
  dsimp only [Rd]; rw [if_pos ⟨rfl, rfl⟩, kind_recv]
theorem duties_later (g : GSem nD τ sig) : ∀ r, 1 ≤ r → (Rd m).duties g r = ∅ :=
  fun r hr => by dsimp only [Rd]; rw [if_neg fun h => by omega]

theorem amount_bar (d : Fin 6) : (Rd m).amount (barCell c) 0 d = 1 := by dsimp only [Rd]; rw [kind_bar]
theorem amount_send (d : Fin 6) : (Rd m).amount (sendCell t c) 0 d = N := by dsimp only [Rd]; rw [kind_send]
theorem amount_recv (d : Fin 6) : (Rd m).amount (recvCell t c) 0 d = N := by dsimp only [Rd]; rw [kind_recv]

theorem expect_bar : (Rd m).expect (barCell c) 0 = 6 := by
  unfold Schedule.expect Schedule.amountOf
  rw [duties_bar, Finset.sum_congr rfl fun d _ => amount_bar m c d, Finset.sum_const, Finset.card_univ, Fintype.card_fin, smul_eq_mul]
theorem expect_send : (Rd m).expect (sendCell t c) 0 = N := by
  unfold Schedule.expect Schedule.amountOf; rw [duties_send, Finset.sum_singleton, amount_send]
theorem expect_recv : (Rd m).expect (recvCell t c) 0 = N := by
  unfold Schedule.expect Schedule.amountOf; rw [duties_recv, Finset.sum_singleton, amount_recv]

theorem payload_bar (d : Fin 6) : (Rd m).payload (barCell c) 0 d = barPay c d := by dsimp only [Rd]; rw [kind_bar]
theorem payload_send (d : Fin 6) : (Rd m).payload (sendCell t c) 0 d = sendPay m t c := by dsimp only [Rd]; rw [kind_send]
theorem payload_recv (d : Fin 6) : (Rd m).payload (recvCell t c) 0 d = recvPay m t c := by dsimp only [Rd]; rw [kind_recv]

theorem rest_bar : bigSep ((Rd m).duties (barCell c) 0 \ ∅) (fun d => (Rd m).payload (barCell c) 0 d) = bigSep Finset.univ (fun k => barPay (F := F) c k) := by
  rw [Finset.sdiff_empty, duties_bar]; exact bigSep_congr fun d _ => payload_bar m c d
theorem rest_send : bigSep ((Rd m).duties (sendCell t c) 0 \ ∅) (fun d => (Rd m).payload (sendCell t c) 0 d) = sendPay m t c := by
  rw [Finset.sdiff_empty, duties_send, bigSep_singleton, payload_send]
theorem rest_recv : bigSep ((Rd m).duties (recvCell t c) 0 \ ∅) (fun d => (Rd m).payload (recvCell t c) 0 d) = recvPay m t c := by
  rw [Finset.sdiff_empty, duties_recv, bigSep_singleton, payload_recv]

/-- The six payments of a barrier hand over the landing place of every transfer. -/
theorem handed_cover : (Finset.univ : Finset (Fin 16)) = Finset.univ.biUnion fun k : Fin 6 => (handed k).toFinset := by decide +kernel
theorem handed_disjoint : ∀ k ∈ (Finset.univ : Finset (Fin 6)), ∀ k' ∈ (Finset.univ : Finset (Fin 6)), k ≠ k' → Disjoint (handed k).toFinset (handed k').toFinset := by decide +kernel
theorem barPay_all : bigSep Finset.univ (fun k => barPay (F := F) c k) = bigSep Finset.univ fun t : Fin 16 => land (F := F) t c := by
  rw [handed_cover, BI.bigSep_biUnion_eq _ _ _ handed_disjoint]; rfl

end Tables

/-! ## What a device owes, and the levels -/

/-- Having issued the transfers below `n`, what is still owed to receive counters; -/
def oweS (n : ℕ) (c : Dev nD) : CellTallies nD τ sig Unit := ∑ t ∈ Finset.univ.filter (fun t : Fin 16 => n ≤ t.val), tallyAt (recvCell t (dst t c)) () N
/-- having made the signals below `n`, what is still owed to barriers; -/
def oweB (n : ℕ) (c : Dev nD) : CellTallies nD τ sig Unit := ∑ k ∈ Finset.univ.filter (fun k : Fin 6 => n ≤ k.val), tallyAt (barCell (sigTo k c)) () 1
/-- both. -/
def owe (n : ℕ) (c : Dev nD) : CellTallies nD τ sig Unit := oweS 0 c + oweB n c

theorem filter_peel {M : ℕ} (t : Fin M) : Finset.univ.filter (fun s : Fin M => t.val ≤ s.val) = insert t (Finset.univ.filter fun s : Fin M => t.val + 1 ≤ s.val) := by
  ext s
  simp only [Finset.mem_filter, Finset.mem_univ, true_and, Finset.mem_insert, Fin.ext_iff]
  omega
theorem oweS_peel (t : Fin 16) (c : Dev nD) : oweS t.val c = oweS (t.val + 1) c + tallyAt (recvCell t (dst t c)) () N := by
  unfold oweS
  rw [filter_peel t, Finset.sum_insert (by simp), add_comm]
theorem owe_peel (k : Fin 6) (c : Dev nD) : owe k.val c = owe (k.val + 1) c + tallyAt (barCell (sigTo k c)) () 1 := by
  unfold owe oweB
  rw [filter_peel k, Finset.sum_insert (by simp), add_comm (tallyAt _ _ _), add_assoc]
theorem oweS_last (c : Dev nD) : oweS 16 c = 0 := by
  unfold oweS; rw [Finset.sum_eq_zero]; intro t ht; have := (Finset.mem_filter.mp ht).2; have := t.isLt; omega
theorem owe_last (c : Dev nD) : owe 6 c = oweS 0 c := by
  unfold owe oweB
  rw [Finset.sum_eq_zero (s := Finset.univ.filter (fun k : Fin 6 => 6 ≤ k.val)), add_zero]
  intro t ht; have := (Finset.mem_filter.mp ht).2; have := t.isLt; omega

def L (g : GSem nD τ sig) : Finset Unit := if g.1.2 = .tc then {()} else ∅
def lv (g : GSem nD τ sig) (_ : Unit) : ℕ := match kindOf g.2 with | some none => 1 | some (some (true, t)) => t.val + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]
theorem lv_recv (t : Fin 16) (c : Dev nD) : lv (recvCell t c) () = t.val + 2 := by unfold lv; rw [kind_recv]

theorem tally_pos {g g' : GSem nD τ sig} {u : Unit} {k : ℕ} (h : 0 < (tallyAt g () k : CellTallies nD τ sig Unit) g' u) : g' = g := by
  rw [tallyAt_apply] at h
  by_contra hn
  rw [if_neg (fun h' => hn h'.1)] at h
  exact Nat.lt_irrefl 0 h
theorem sum_pos_of {ι : Type} {s : Finset ι} {D : ι → CellTallies nD τ sig Unit} {g : GSem nD τ sig} {u : Unit} (h : 0 < (∑ t ∈ s, D t) g u) :
    ∃ t ∈ s, 0 < D t g u := by
  by_contra hn
  push Not at hn
  rw [Finset.sum_apply, Finsupp.finset_sum_apply] at h
  exact absurd h (by rw [Finset.sum_eq_zero fun t ht => Nat.le_zero.mp (hn t ht)]; exact Nat.lt_irrefl 0)
theorem oweS_pos {n : ℕ} {c : Dev nD} {g : GSem nD τ sig} {u : Unit} (h : 0 < oweS n c g u) : ∃ t : Fin 16, n ≤ t.val ∧ g = recvCell t (dst t c) := by
  obtain ⟨t, ht, hp⟩ := sum_pos_of h
  exact ⟨t, (Finset.mem_filter.mp ht).2, tally_pos hp⟩
theorem owe_pos {n : ℕ} {c : Dev nD} {g : GSem nD τ sig} {u : Unit} (h : 0 < owe n c g u) :
    (∃ t : Fin 16, g = recvCell t (dst t c)) ∨ ∃ k : Fin 6, g = barCell (sigTo k c) := by
  unfold owe at h
  rw [Pi.add_apply, Finsupp.add_apply] at h
  rcases Nat.eq_zero_or_pos (oweS 0 c g u) with h0 | h0
  · rw [h0, Nat.zero_add] at h
    obtain ⟨k, hk, hp⟩ := sum_pos_of h
    exact .inr ⟨k, tally_pos hp⟩
  · obtain ⟨t, -, ht⟩ := oweS_pos h0
    exact .inl ⟨t, ht⟩

/-- A device may wait at a counter below every counter it owes. -/
theorem mayWait_below (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

theorem mayWait_recv (t : Fin 16) (n : ℕ) (hn : t.val < n) (c : Dev nD) :
    (levAts L lv : sProp 𝕄) ⊢ MayWait (c : Thread nD τ) (.dma (recvS t)) () (oweS n c) :=
  mayWait_below c _ _ fun g u hg => by
    obtain ⟨t', ht', rfl⟩ := oweS_pos hg
    exact ⟨rfl, by rw [lv_recv, lv_recv]; omega⟩
theorem mayWait_bar (c : Dev nD) : (levAts L lv : sProp 𝕄) ⊢ MayWait (c : Thread nD τ) (.reg barS) () (oweS 0 c) :=
  mayWait_below c _ _ fun g u hg => by
    obtain ⟨t', ht', rfl⟩ := oweS_pos hg
    exact ⟨rfl, by rw [lv_recv, lv_bar]; omega⟩
/-- At a counter that is neither a barrier nor a receive counter it may always wait. -/
theorem mayWait_low (c : Dev nD) (sm : SemLoc sig) (h0 : lv ((c : Thread nD τ), sm) () = 0) (O : CellTallies nD τ sig Unit)
    (hO : (∃ n, O = oweS n c) ∨ (∃ n, O = owe n c)) : (levAts L lv : sProp 𝕄) ⊢ MayWait (c : Thread nD τ) sm () O :=
  mayWait_below c _ _ fun g u hg => by
    rw [h0]
    rcases hO with ⟨n, rfl⟩ | ⟨n, rfl⟩
    · obtain ⟨t', ht', rfl⟩ := oweS_pos hg
      exact ⟨rfl, by rw [lv_recv]; omega⟩
    · rcases owe_pos hg with ⟨t', rfl⟩ | ⟨k, rfl⟩
      · exact ⟨rfl, by rw [lv_recv]; omega⟩
      · exact ⟨rfl, by rw [lv_bar]; omega⟩
theorem lv_send (t : Fin 16) (c : Dev nD) : lv (sendCell t c) () = 0 := by unfold lv; rw [kind_send]

end Cert.KernelIdeal.Run

end
-- ==== Proof.Steps.lean ====
/-
# One rule per step of the protocol

A signal, the barrier wait, a transfer, the waits at its two counters, and the copies within a device, each stated once
for any device and any transfer. `ctx` is what every device knows throughout: the shared counters' invariants, that
round 0 of each has begun, and the levels.
-/
module

public import proofs.«01_k».proof.Proof.Sched

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig Unit (Elt F) ℕ UU ℕ

abbrev EC : UEmb Counters (MT nD τ sig Unit (Elt F) ℕ UU ℕ) := countersEmb
def 𝒱₀ : Variants := Variants.none

variable (m : (ℓ : Loc nD τ sig) → Buf (Elt F) ℓ)

/-- What every device knows throughout. -/
def ctx (K : Dev nD × KC → ℕ) : sProp 𝕄 :=
  iprop((bigSep Finset.univ fun ck : Dev nD × KC => iprop(cellInv ER (Rd m) (K ck) (kcell ck) ∗ reached ER (kcell ck) 0)) ∗ levAts L lv)
instance ctx_persistent (K : Dev nD × KC → ℕ) : BI.Persistent (ctx m K) := by unfold ctx; infer_instance

variable (K : Dev nD × KC → ℕ)

theorem ctx_at (ck : Dev nD × KC) : ctx m K ⊢ iprop(cellInv ER (Rd m) (K ck) (kcell ck) ∗ reached ER (kcell ck) 0) :=
  sep_elim_left.trans (bigSep_elim (Φ := fun ck : Dev nD × KC => iprop(cellInv ER (Rd m) (K ck) (kcell ck) ∗ reached ER (kcell ck) 0)) (Finset.mem_univ ck))
theorem ctx_lev : ctx m K ⊢ (levAts L lv : sProp 𝕄) := sep_elim_right

/-- What a device owes, the counters it has waited at being no matter. -/
def ow (c : Dev nD) (O : CellTallies nD τ sig Unit) : sProp 𝕄 := iprop(∃ W, owes (c : Thread nD τ) O W)

/-- What transfer `t` takes besides its source: the landing place, the tokens of its two payments, the place in its send counter's rounds. -/
def sendKit (t : Fin 16) (c : Dev nD) : sProp 𝕄 :=
  iprop(land (F := F) t c ∗ dutyTok ER (sendCell t c) 0 0 ∗ dutyTok ER (recvCell t (dst t c)) 0 0 ∗ atPos ER (sendCell t c) 0 ∅ 0)
/-- What is left of it until its send counter has been waited at. -/
def sentKit (t : Fin 16) (c : Dev nD) : sProp 𝕄 :=
  iprop(cred (tallyAt (sendCell t c) () N) ∗ atPos ER (sendCell t c) 0 ∅ 0)
/-- What the wait at receive counter `t` takes. -/
def recvKit (t : Fin 16) (c : Dev nD) : sProp 𝕄 :=
  iprop(cred (tallyAt (recvCell t c) () N) ∗ atPos ER (recvCell t c) 0 ∅ 0)

abbrev W0 (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

theorem step_signal (k : Fin 6) (c n : Dev nD) (hn : n = sigTo k c) {α : Type} {Q : α → sProp 𝕄}
    {kk : PUnit → Prog (TpuEff nD τ sig (Elt F) Λ₀ .tc) α} :
    iprop(ctx m K ∗ ow c (owe k.val c) ∗ dutyTok ER (barCell (sigTo k c)) 0 k ∗ barPay (F := F) (sigTo k c) k)
      ⊢ iprop((ow c (owe (k.val + 1) c) -∗ W0 c (kk ⟨⟩) Q)
          -∗ W0 c (.op (.semSignal (Dev.tc n : Thread nD τ) barS ((1#32 : BitVec 32).toInt)) kk) Q) := by
  subst hn
  unfold ow
  iintro ⟨#Hc, ⟨%W, HO⟩, Htok, Hpay⟩ Hk
  ihave H := (ctx_at m K (sigTo k c, none)) $$ Hc
  icases H with ⟨#HI, #HR⟩
  iapply (Rounds.wp_signal 𝒱₀ ER (Rd m) (c : Thread nD τ) none (κ := K (sigTo k c, none)) (d := k) (r := 0)
    (by rw [duties_bar]; exact Finset.mem_univ _) (amount_bar m (sigTo k c) k) () (owe (k.val + 1) c) (owe_peel k c) (W := W)) $$ [HO Htok Hpay]
  · isplitr; · iexact HI
    isplitl [HO]; · iexact HO
    isplitl [Htok]; · iexact Htok
    isplitl [Hpay]; · rw [payload_bar]; iexact Hpay
    iexact HR
  iintro HO
  iapply Hk
  iexists W; iexact HO

theorem step_bar (c : Dev nD) {α : Type} {Q : α → sProp 𝕄} {kk : PUnit → Prog (TpuEff nD τ sig (Elt F) Λ₀ .tc) α} :
    iprop(ctx m K ∗ ow c (oweS 0 c) ∗ cred (tallyAt (barCell c) () 6) ∗ atPos ER (barCell c) 0 ∅ 0)
      ⊢ iprop(((ow c (oweS 0 c) ∗ semVal (barCell c) 0 ∗ bigSep Finset.univ fun t : Fin 16 => land (F := F) t c) -∗ W0 c (kk ⟨⟩) Q)
          -∗ W0 c (.op (.semWait barS ((6#32 : BitVec 32).toInt)) kk) Q) := by
  unfold ow
  iintro ⟨#Hc, ⟨%W, HO⟩, Hcr, Hat⟩ Hk
  ihave H := (ctx_at m K (c, none)) $$ Hc
  icases H with ⟨#HI, #HR⟩
  ihave #Hlv := (ctx_lev m K) $$ Hc
  iapply (Rounds.wp_wait_rest_token 𝒱₀ ER (Rd m) (c : Thread nD τ) none (κ := K (c, none)) (sm := .reg barS) (k' := 6)
      (wpE_semWait_eq 𝒱₀ (c : Thread nD τ) none Set.univ) (Set.mem_univ _) () (O := oweS 0 c) (W := W) (R := 0) (m := 0) (T := ∅)
      (by rw [Nat.zero_add, expect_bar])) $$ [Hcr HO Hat]
  · isplitr; · iexact HI
    isplitl [Hcr]; · iexact Hcr
    isplitl [HO]; · iexact HO
    isplitr; · iapply (mayWait_bar c) $$ Hlv
    iexact Hat
  iintro ⟨HO, Hat, -, Hpay⟩
  imod (Rounds.cell_close ER (Rd m) (Set.mem_univ (K (c, none))) (fun h => h) (R := 0 + 1) (duties_later m (barCell c))) $$ [Hat] with Hz
  · isplitr; · iexact HI
    iexact Hat
  iapply Hk
  isplitl [HO]; · iexists (insert (SemLoc.reg barS, ()) W); iexact HO
  isplitl [Hz]; · iexact Hz
  iapply (Entails.of_eq ((rest_bar m c).trans (barPay_all c))) $$ Hpay

/-! ## Transfers -/

/-- The hop. -/
theorem step_hop (c n : Dev nD) (hn : n = dst 0 c) {sS rS : DmaSem sig} (hs : sS = sendS 0) (hr : rS = recvS 0)
    {hsc : (slotM 1 : Memref sig (Dev.tc n : Thread nD τ).2.kind .vmem S128x2048 .bf16).view.ref.isScScratch = false}
    {hsrc : (slotM 0).view.WordExact} {hdst : (slotM 1).view.WordExact}
    {hsem : DmaTarget.Typed .vmem (.dma rS) (.remote (Dev.tc n : Thread nD τ) (slotM 1 : Memref sig (Dev.tc n : Thread nD τ).2.kind .vmem S128x2048 .bf16) (.dma sS) hsc)}
    {α : Type} {Q : α → sProp 𝕄} {kk : PUnit → Prog (TpuEff nD τ sig (Elt F) Λ₀ .tc) α} :
    iprop(ctx m K ∗ sendKit (F := F) 0 c ∗ sendPay m 0 c ∗ ow c (oweS 0 c))
      ⊢ iprop(((sentKit 0 c ∗ ow c (oweS 1 c)) -∗ W0 c (kk ⟨⟩) Q)
          -∗ W0 c (.op (.enqueueDma (slotM 0) (.remote (Dev.tc n : Thread nD τ) (slotM 1) (.dma sS) hsc) (.dma rS) hsrc hdst hsem) kk) Q) := by
  subst hn hs hr
  unfold ow sendKit sentKit land landAt sendPay
  rw [if_pos rfl, if_pos rfl]
  iintro ⟨#Hc, ⟨Hland, Ht1, Ht2, Hat⟩, Hsrc, ⟨%W, HO⟩⟩ Hk
  icases Hland with ⟨%fd, Hland⟩
  ihave H := (ctx_at m K (c, some (false, 0))) $$ Hc
  icases H with ⟨#HI, #HR⟩
  ihave H := (ctx_at m K (dst 0 c, some (true, 0))) $$ Hc
  icases H with ⟨#HI', #HR'⟩
  iapply (Rounds.wp_send_pointsTo 𝒱₀ ER (Rd m) (c : Thread nD τ) none (κ₁ := K (c, some (false, 0))) (κ₂ := K (dst 0 c, some (true, 0)))
    (c' := (dst 0 c : Thread nD τ)) (src := slotM 0) (dst := slotM 1) (sS := .dma (sendS 0)) (sem := .dma (recvS 0)) (r₁ := 0) (r₂ := 0) (d₁ := 0) (d₂ := 0) (fd := fd) (fs := commC m c) (q := fullShare)
    (by rw [duties_send]; exact Finset.mem_singleton_self _) (by rw [duties_recv]; exact Finset.mem_singleton_self _)
    () () N (credit_slot 1) (amount_send m c 0 0) (amount_recv m (dst 0 c) 0 0) (oweS 1 c) (oweS_peel 0 c) (W := W)
    (by rw [payload_send]; unfold sendPay; rw [if_pos rfl, slot_set])
    (by
      rw [payload_recv]; unfold recvPay; rw [if_pos rfl, slot_set]
      exact Entails.of_eq (pointsTo_congr (slot_land m c fd)))) $$ [Hland Ht1 Ht2 Hsrc HO]
  · isplitr; · iexact HI
    isplitr; · iexact HI'
    isplitl [Hsrc]; · rw [slot_set]; iexact Hsrc
    isplitl [Hland]; · rw [slot_set]; iexact Hland
    isplitl [HO]; · iexact HO
    isplitl [Ht1]; · iexact Ht1
    isplitr; · iexact HR
    isplitl [Ht2]; · iexact Ht2
    iexact HR'
  iintro ⟨Hcr, HO⟩
  iapply Hk
  isplitl [Hcr Hat]
  · isplitl [Hcr]; · iexact Hcr
    iexact Hat
  iexists W; iexact HO

/-- Every other transfer. -/
theorem step_send (t : Fin 16) (ht : t ≠ 0) (c n : Dev nD) (hn : n = dst t c) {sS rS : DmaSem sig} (hs : sS = sendS t) (hr : rS = recvS t)
    {off : Fin 2 → ℕ} (ho : off = poff (sent t c)) {inb : ∀ a, off a + S128x2048.size a ≤ S2048x2048.size a}
    {hsc : (allM.slice (Rect.unit (s := S2048x2048) off S128x2048.size inb) (fun _ => rfl) : Memref sig (Dev.tc n : Thread nD τ).2.kind .vmem S128x2048 .bf16).view.ref.isScScratch = false}
    {hsrc : (allM.slice (Rect.unit (s := S2048x2048) off S128x2048.size inb) (fun _ => rfl)).view.WordExact} {hdst : (allM.slice (Rect.unit (s := S2048x2048) off S128x2048.size inb) (fun _ => rfl)).view.WordExact}
    {hsem : DmaTarget.Typed .vmem (.dma rS) (.remote (Dev.tc n : Thread nD τ) (allM.slice (Rect.unit (s := S2048x2048) off S128x2048.size inb) (fun _ => rfl) : Memref sig (Dev.tc n : Thread nD τ).2.kind .vmem S128x2048 .bf16) (.dma sS) hsc)}
    {α : Type} {Q : α → sProp 𝕄} {kk : PUnit → Prog (TpuEff nD τ sig (Elt F) Λ₀ .tc) α} :
    iprop(ctx m K ∗ sendKit (F := F) t c ∗ sendPay m t c ∗ ow c (oweS t.val c))
      ⊢ iprop(((sentKit t c ∗ ow c (oweS (t.val + 1) c)) -∗ W0 c (kk ⟨⟩) Q)
          -∗ W0 c (.op (.enqueueDma (allM.slice (Rect.unit (s := S2048x2048) off S128x2048.size inb) (fun _ => rfl))
              (.remote (Dev.tc n : Thread nD τ) (allM.slice (Rect.unit (s := S2048x2048) off S128x2048.size inb) (fun _ => rfl)) (.dma sS) hsc) (.dma rS) hsrc hdst hsem) kk) Q) := by
  subst hn hs hr ho
  unfold ow sendKit sentKit land landAt sendPay
  rw [if_neg ht, if_neg ht]
  iintro ⟨#Hc, ⟨Hland, Ht1, Ht2, Hat⟩, Hsrc, ⟨%W, HO⟩⟩ Hk
  icases Hland with ⟨%fd, Hland⟩
  ihave H := (ctx_at m K (c, some (false, t))) $$ Hc
  icases H with ⟨#HI, #HR⟩
  ihave H := (ctx_at m K (dst t c, some (true, t))) $$ Hc
  icases H with ⟨#HI', #HR'⟩
  iapply (Rounds.wp_send_pointsTo 𝒱₀ ER (Rd m) (c : Thread nD τ) none (κ₁ := K (c, some (false, t))) (κ₂ := K (dst t c, some (true, t)))
    (c' := (dst t c : Thread nD τ)) (src := pieceM (sent t c)) (dst := pieceM (sent t c)) (sS := .dma (sendS t)) (sem := .dma (recvS t)) (r₁ := 0) (r₂ := 0) (d₁ := 0) (d₂ := 0) (fd := fd) (fs := G m) (q := shr t)
    (by rw [duties_send]; exact Finset.mem_singleton_self _) (by rw [duties_recv]; exact Finset.mem_singleton_self _)
    () () N (credit_piece (sent t c)) (amount_send m c t 0) (amount_recv m (dst t c) t 0) (oweS (t.val + 1) c) (oweS_peel t c) (W := W)
    (by rw [payload_send]; unfold sendPay; rw [if_neg ht, piece_set])
    (by
      rw [payload_recv]; unfold recvPay; rw [if_neg ht, piece_set, got_dst t ht]
      exact Entails.of_eq (pointsTo_congr (piece_land m (sent t c) fd)))) $$ [Hland Ht1 Ht2 Hsrc HO]
  · isplitr; · iexact HI
    isplitr; · iexact HI'
    isplitl [Hsrc]; · rw [piece_set]; iexact Hsrc
    isplitl [Hland]; · rw [piece_set]; iexact Hland
    isplitl [HO]; · iexact HO
    isplitl [Ht1]; · iexact Ht1
    isplitr; · iexact HR
    isplitl [Ht2]; · iexact Ht2
    iexact HR'
  iintro ⟨Hcr, HO⟩
  iapply Hk
  isplitl [Hcr Hat]
  · isplitl [Hcr]; · iexact Hcr
    iexact Hat
  iexists W; iexact HO

/-- The wait at receive counter `t`, every transfer up to `t` issued. -/
theorem step_recv (t : Fin 16) (n : ℕ) (htn : t.val < n) (c : Dev nD) {rS : DmaSem sig} (hr : rS = recvS t)
    {sp sp' : Space} {s' s : Shape} {e' e : EltTy} {srcw : Memref sig .tc sp' s' e'} {dstw : Memref sig .tc sp s e} (hN : dstw.view.dmaCredit = N)
    {hsrc : srcw.view.WordExact} {hdst : dstw.view.WordExact} {α : Type} {Q : α → sProp 𝕄} {kk : PUnit → Prog (TpuEff nD τ sig (Elt F) Λ₀ .tc) α} :
    iprop(ctx m K ∗ recvKit t c ∗ ow c (oweS n c))
      ⊢ iprop(((ow c (oweS n c) ∗ semVal (recvCell t c) 0 ∗ recvPay m t c) -∗ W0 c (kk ⟨⟩) Q)
          -∗ W0 c (.op (.waitDma2 rS srcw dstw hsrc hdst) kk) Q) := by
  subst hr
  unfold ow recvKit
  iintro ⟨#Hc, ⟨Hcr, Hat⟩, ⟨%W, HO⟩⟩ Hk
  ihave H := (ctx_at m K (c, some (true, t))) $$ Hc
  icases H with ⟨#HI, #HR⟩
  ihave #Hlv := (ctx_lev m K) $$ Hc
  iapply (Rounds.wp_wait_rest_token 𝒱₀ ER (Rd m) (c : Thread nD τ) none (κ := K (c, some (true, t)))
      (wpE_waitDma2_eq 𝒱₀ (c : Thread nD τ) none Set.univ) (Set.mem_univ _) () (O := oweS n c) (W := W) (R := 0) (m := 0) (T := ∅)
      (by rw [Nat.zero_add, expect_recv, hN])) $$ [Hcr HO Hat]
  · isplitr; · iexact HI
    isplitl [Hcr]; · rw [hN]; iexact Hcr
    isplitl [HO]; · iexact HO
    isplitr; · iapply (mayWait_recv t n htn c) $$ Hlv
    iexact Hat
  iintro ⟨HO, Hat, -, Hpay⟩
  imod (Rounds.cell_close ER (Rd m) (Set.mem_univ (K (c, some (true, t)))) (fun h => h) (R := 0 + 1) (duties_later m (recvCell t c))) $$ [Hat] with Hz
  · isplitr; · iexact HI
    iexact Hat
  iapply Hk
  isplitl [HO]; · iexists (insert (SemLoc.dma (recvS t), ()) W); iexact HO
  isplitl [Hz]; · iexact Hz
  iapply (Entails.of_eq (rest_recv m c t)) $$ Hpay

/-- The wait at send counter `t`. -/
theorem step_sent (t : Fin 16) (n : ℕ) (c : Dev nD) {sS : DmaSem sig} (hs : sS = sendS t)
    {sp sp' : Space} {s' s : Shape} {e' e : EltTy} {srcw : Memref sig .tc sp' s' e'} {dstw : Memref sig .tc sp s e} (hN : dstw.view.dmaCredit = N)
    {hsrc : srcw.view.WordExact} {hdst : dstw.view.WordExact} {α : Type} {Q : α → sProp 𝕄} {kk : PUnit → Prog (TpuEff nD τ sig (Elt F) Λ₀ .tc) α} :
    iprop(ctx m K ∗ sentKit t c ∗ ow c (oweS n c))
      ⊢ iprop(((ow c (oweS n c) ∗ semVal (sendCell t c) 0 ∗ sendPay m t c) -∗ W0 c (kk ⟨⟩) Q)
          -∗ W0 c (.op (.waitDma2 sS srcw dstw hsrc hdst) kk) Q) := by
  subst hs
  unfold ow sentKit
  iintro ⟨#Hc, ⟨Hcr, Hat⟩, ⟨%W, HO⟩⟩ Hk
  ihave H := (ctx_at m K (c, some (false, t))) $$ Hc
  icases H with ⟨#HI, #HR⟩
  ihave #Hlv := (ctx_lev m K) $$ Hc
  iapply (Rounds.wp_wait_rest_token 𝒱₀ ER (Rd m) (c : Thread nD τ) none (κ := K (c, some (false, t)))
      (wpE_waitDma2_eq 𝒱₀ (c : Thread nD τ) none Set.univ) (Set.mem_univ _) () (O := oweS n c) (W := W) (R := 0) (m := 0) (T := ∅)
      (by rw [Nat.zero_add, expect_send, hN])) $$ [Hcr HO Hat]
  · isplitr; · iexact HI
    isplitl [Hcr]; · rw [hN]; iexact Hcr
    isplitl [HO]; · iexact HO
    isplitr; · iapply (mayWait_low c _ (lv_send t c) (oweS n c) (.inl ⟨n, rfl⟩)) $$ Hlv
    iexact Hat
  iintro ⟨HO, Hat, -, Hpay⟩
  imod (Rounds.cell_close ER (Rd m) (Set.mem_univ (K (c, some (false, t)))) (fun h => h) (R := 0 + 1) (duties_later m (sendCell t c))) $$ [Hat] with Hz
  · isplitr; · iexact HI
    iexact Hat
  iapply Hk
  isplitl [HO]; · iexists (insert (SemLoc.dma (sendS t), ()) W); iexact HO
  isplitl [Hz]; · iexact Hz
  iapply (Entails.of_eq (rest_send m c t)) $$ Hpay

/-- The two waits as the program has them: over pieces, and over the hop's slots. -/
theorem step_recvP (t : Fin 16) (n : ℕ) (htn : t.val < n) {rS : DmaSem sig} (hr : rS = recvS t)
    {o o' : Fin 2 → ℕ} {inb : ∀ a, o a + S128x2048.size a ≤ S2048x2048.size a} {inb' : ∀ a, o' a + S128x2048.size a ≤ S2048x2048.size a}
    {hsrc : (allM.slice (Rect.unit (s := S2048x2048) o S128x2048.size inb) (fun _ => rfl)).view.WordExact}
    {hdst : (allM.slice (Rect.unit (s := S2048x2048) o' S128x2048.size inb') (fun _ => rfl)).view.WordExact}
    {α : Type} {Q : α → sProp 𝕄} {kk : PUnit → Prog (TpuEff nD τ sig (Elt F) Λ₀ .tc) α} (c : Dev nD) :
    iprop(ctx m K ∗ recvKit t c ∗ ow c (oweS n c))
      ⊢ iprop(((ow c (oweS n c) ∗ semVal (recvCell t c) 0 ∗ recvPay m t c) -∗ W0 c (kk ⟨⟩) Q)
          -∗ W0 c (.op (.waitDma2 rS (allM.slice (Rect.unit (s := S2048x2048) o S128x2048.size inb) (fun _ => rfl))
              (allM.slice (Rect.unit (s := S2048x2048) o' S128x2048.size inb') (fun _ => rfl)) hsrc hdst) kk) Q) :=
  step_recv m K t n htn c hr (by rfl)
theorem step_recv0 {rS : DmaSem sig} (hr : rS = recvS 0) {hsrc : (slotM 0).view.WordExact} {hdst : (slotM 1).view.WordExact}
    {α : Type} {Q : α → sProp 𝕄} {kk : PUnit → Prog (TpuEff nD τ sig (Elt F) Λ₀ .tc) α} (c : Dev nD) :
    iprop(ctx m K ∗ recvKit 0 c ∗ ow c (oweS 1 c))
      ⊢ iprop(((ow c (oweS 1 c) ∗ semVal (recvCell 0 c) 0 ∗ recvPay m 0 c) -∗ W0 c (kk ⟨⟩) Q)
          -∗ W0 c (.op (.waitDma2 rS (slotM 0) (slotM 1) hsrc hdst) kk) Q) :=
  step_recv m K 0 1 (by decide) c hr (by rfl)
theorem step_sentP (t : Fin 16) (n : ℕ) {sS : DmaSem sig} (hs : sS = sendS t)
    {o o' : Fin 2 → ℕ} {inb : ∀ a, o a + S128x2048.size a ≤ S2048x2048.size a} {inb' : ∀ a, o' a + S128x2048.size a ≤ S2048x2048.size a}
    {hsrc : (allM.slice (Rect.unit (s := S2048x2048) o S128x2048.size inb) (fun _ => rfl)).view.WordExact}
    {hdst : (allM.slice (Rect.unit (s := S2048x2048) o' S128x2048.size inb') (fun _ => rfl)).view.WordExact}
    {α : Type} {Q : α → sProp 𝕄} {kk : PUnit → Prog (TpuEff nD τ sig (Elt F) Λ₀ .tc) α} (c : Dev nD) :
    iprop(ctx m K ∗ sentKit t c ∗ ow c (oweS n c))
      ⊢ iprop(((ow c (oweS n c) ∗ semVal (sendCell t c) 0 ∗ sendPay m t c) -∗ W0 c (kk ⟨⟩) Q)
          -∗ W0 c (.op (.waitDma2 sS (allM.slice (Rect.unit (s := S2048x2048) o S128x2048.size inb) (fun _ => rfl))
              (allM.slice (Rect.unit (s := S2048x2048) o' S128x2048.size inb') (fun _ => rfl)) hsrc hdst) kk) Q) :=
  step_sent m K t n c hs (by rfl)
theorem step_sent0 {sS : DmaSem sig} (hs : sS = sendS 0) {hsrc : (slotM 1).view.WordExact} {hdst : (slotM 0).view.WordExact}
    {α : Type} {Q : α → sProp 𝕄} {kk : PUnit → Prog (TpuEff nD τ sig (Elt F) Λ₀ .tc) α} (c : Dev nD) :
    iprop(ctx m K ∗ sentKit 0 c ∗ ow c (oweS 1 c))
      ⊢ iprop(((ow c (oweS 1 c) ∗ semVal (sendCell 0 c) 0 ∗ sendPay m 0 c) -∗ W0 c (kk ⟨⟩) Q)
          -∗ W0 c (.op (.waitDma2 sS (slotM 1) (slotM 0) hsrc hdst) kk) Q) :=
  step_sent m K 0 1 c hs (by rfl)

/-! ## Copies within a device -/

/-- The wait for a copy within the device, at a counter no other device knows. -/
theorem step_local (c : Dev nD) (O : CellTallies nD τ sig Unit) (hO : (∃ n, O = oweS n c) ∨ (∃ n, O = owe n c)) (s : DmaSem sig)
    (h0 : lv ((c : Thread nD τ), .dma s) () = 0) {M : ℕ}
    {sp sp' : Space} {s'' s' : Shape} {e' e : EltTy} {srcw : Memref sig .tc sp' s'' e'} {dstw : Memref sig .tc sp s' e} (hM : dstw.view.dmaCredit = M)
    {hsrc : srcw.view.WordExact} {hdst : dstw.view.WordExact} {D : sProp 𝕄} {α : Type} {Q : α → sProp 𝕄} {kk : PUnit → Prog (TpuEff nD τ sig (Elt F) Λ₀ .tc) α} :
    iprop(ctx m K ∗ Flight EC (c : Thread nD τ) (.dma s) () M D ∗ ow c O)
      ⊢ iprop(((D ∗ semVal ((c : Thread nD τ), .dma s) 0 ∗ ow c O) -∗ W0 c (kk ⟨⟩) Q)
          -∗ W0 c (.op (.waitDma2 s srcw dstw hsrc hdst) kk) Q) := by
  unfold ow
  iintro ⟨#Hc, Hf, ⟨%W, HO⟩⟩ Hk
  ihave #Hlv := (ctx_lev m K) $$ Hc
  iapply (wp_waitLocalO EC 𝒱₀ (c : Thread nD τ) none () hM (O := O) (W := W)) $$ [Hf HO]
  · isplitl [Hf]; · iexact Hf
    isplitl [HO]; · iexact HO
    iapply (mayWait_low c _ h0 O hO) $$ Hlv
  iintro ⟨HD, Hz, HO⟩
  iapply Hk
  isplitl [HD]; · iexact HD
  isplitl [Hz]; · iexact Hz
  iexists (insert (SemLoc.dma s, ()) W); iexact HO

end Cert.KernelIdeal.Run

end
-- ==== Proof.Local.lean ====
/-
# Loads, stores and copies within a device

One rule each, stated over the few resources it touches.
-/
module

public import proofs.«01_k».proof.Proof.Steps

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-! ## The staging buffer of a device's own loads -/

abbrev stageP (v : (cc0_scratch0 : Ref sig .tc).ty.Contents (Elt F)) : sProp 𝕄 := (stageM.view.loc (c : Thread nD τ)) ↦[Finset.univ]{fullShare} v
def stageAny : sProp 𝕄 := iprop(∃ v, stageP (F := F) c v)
abbrev ldS : DmaSem sig := (1 : Fin 42)
abbrev ldCell : GSem nD τ sig := ((c : Thread nD τ), .dma ldS)
def stsS (k : Fin 2) : DmaSem sig := (match k with | 0 => 2 | 1 => 3 : Fin 42)
abbrev stsCell (k : Fin 2) : GSem nD τ sig := ((c : Thread nD τ), .dma (stsS k))
theorem lv_ld : lv (ldCell c) () = 0 := rfl
theorem lv_sts (k : Fin 2) : lv (stsCell c k) () = 0 := by revert k; intro k; match k with | 0 => rfl | 1 => rfl

/-- A copy into it, awaited at once. -/
theorem step_stage (src srcw : Memref sig .tc .hbm S128x2048 .f32) (fs : Buf (Elt F) (src.view.loc (c : Thread nD τ)))
    (O : CellTallies nD τ sig Unit) (hO : (∃ n, O = oweS n c) ∨ (∃ n, O = owe n c)) {s : DmaSem sig} (hs : s = ldS)
    {h1 : src.view.WordExact} {h2 : stageM.view.WordExact} {h3 : DmaTarget.Typed .hbm (.dma s) (.here stageM : DmaTarget nD τ sig .tc .vmem S128x2048 .f32)} {h4 : srcw.view.WordExact} {h5 : stageM.view.WordExact}
    {α : Type} {Q : α → sProp 𝕄} {kk : PUnit → Prog (TpuEff nD τ sig (Elt F) Λ₀ .tc) α} :
    iprop(ctx m K ∗ (src.view.loc (c : Thread nD τ) ↦[Finset.univ]{fullShare} fs) ∗ stageAny (F := F) c ∗ semVal (ldCell c) 0 ∗ ow c O)
      ⊢ iprop((((src.view.loc (c : Thread nD τ) ↦[Finset.univ]{fullShare} fs) ∗ stageP c (src.view.read (Elt F) fs) ∗ semVal (ldCell c) 0 ∗ ow c O) -∗ W0 c (kk ⟨⟩) Q)
          -∗ W0 c (.op (.enqueueDma src (.here stageM) (.dma s) h1 h2 h3) fun _ => .op (.waitDma2 s srcw stageM h4 h5) kk) Q) := by
  subst hs
  unfold stageAny
  iintro ⟨#Hc, Hs, ⟨%fd, Hd⟩, Hz, HO⟩ Hk
  ihave H := (pointsTo_split_subset (Finset.subset_univ src.view.set)).1 $$ Hs
  icases H with ⟨Hs, Hr⟩
  iapply (wp_dmaLocal EC 𝒱₀ (c : Thread nD τ) none (src := src) (dst := stageM) (sm := .dma ldS) (Sd := Finset.univ) (q := fullShare) (fs := fs) (fd := fd) () stageM.view.dmaCredit rfl (View.dmaCredit_pos _ (by decide)) (Finset.subset_univ _)) $$ [Hs Hd Hz]
  · isplitl [Hs]; · iexact Hs
    isplitl [Hd]; · iexact Hd
    iexact Hz
  iintro Hf
  iapply (step_local m K c O hO ldS (lv_ld c) (dstw := stageM) (by rfl)) $$ [Hf HO]
  · isplitr; · iexact Hc
    isplitl [Hf]; · iexact Hf
    iexact HO
  iintro ⟨⟨Hd, Hs⟩, Hz, HO⟩
  iapply Hk
  isplitl [Hs Hr]
  · iapply (pointsTo_split_subset (Finset.subset_univ src.view.set)).2
    isplitl [Hs]; · iexact Hs
    iexact Hr
  isplitl [Hd]
  · iapply (Entails.of_eq (congrArg (fun v => stageP (F := F) c v) (View.write_whole_univ (Val := Elt F) cc0_scratch0 fd (src.view.read (Elt F) fs)))) $$ Hd
  isplitl [Hz]; · iexact Hz
  iexact HO

theorem step_ldStage (v : (cc0_scratch0 : Ref sig .tc).ty.Contents (Elt F)) {inb : ∀ a, (![0, 0] : Fin 2 → ℕ) a + S128x2048.size a ≤ S128x2048.size a}
    {hl : stageM.view.LoadsAt (Rect.unit (s := S128x2048) ![0, 0] S128x2048.size inb).toLoadRect} {α : Type} {Q : α → sProp 𝕄} {kk : Vec F S128x2048 .f32 → Prog (TpuEff nD τ sig (Elt F) Λ₀ .tc) α} :
    stageP c v ⊢ iprop((stageP c v -∗ W0 c (kk v) Q) -∗ W0 c (.op (.load stageM (Rect.unit (s := S128x2048) ![0, 0] S128x2048.size inb).toLoadRect hl) kk) Q) := by
  have e : stageM.view.readAt (Elt F) (Rect.unit (s := S128x2048) ![0, 0] S128x2048.size inb).toLoadRect v = v :=
    Memref.readAt_unit_zero (Elt F) cc0_scratch0 (by funext a; match a with | 0 => rfl | 1 => rfl) inb v
  iintro H Hk
  iapply (wp_load 𝒱₀ (c : Thread nD τ) none Set.univ (m := stageM) (r := (Rect.unit (s := S128x2048) ![0, 0] S128x2048.size inb).toLoadRect) (S := Finset.univ) (q := fullShare) (f := v) (Finset.subset_univ _)) $$ H
  iintro H
  rw [e]
  iapply Hk
  iexact H

/-! ## The scale -/

abbrev gamP : sProp 𝕄 := (gamM.view.loc (c : Thread nD τ)) ↦[Finset.univ]{fullShare} (a3 m c)
theorem step_ldGam {inb : ∀ a, (![0, 0] : Fin 2 → ℕ) a + S1x2048.size a ≤ S1x2048.size a}
    {hl : gamM.view.LoadsAt (Rect.unit (s := S1x2048) ![0, 0] S1x2048.size inb).toLoadRect} {α : Type} {Q : α → sProp 𝕄} {kk : Vec F S1x2048 .f32 → Prog (TpuEff nD τ sig (Elt F) Λ₀ .tc) α} :
    gamP m c ⊢ iprop((gamP m c -∗ W0 c (kk (a3 m c)) Q) -∗ W0 c (.op (.load gamM (Rect.unit (s := S1x2048) ![0, 0] S1x2048.size inb).toLoadRect hl) kk) Q) := by
  have e : gamM.view.readAt (Elt F) (Rect.unit (s := S1x2048) ![0, 0] S1x2048.size inb).toLoadRect (a3 m c) = a3 m c :=
    Memref.readAt_unit_zero (Elt F) cc0_stg0_0 (by funext a; match a with | 0 => rfl | 1 => rfl) inb (a3 m c)
  iintro H Hk
  iapply (wp_load 𝒱₀ (c : Thread nD τ) none Set.univ (m := gamM) (r := (Rect.unit (s := S1x2048) ![0, 0] S1x2048.size inb).toLoadRect) (S := Finset.univ) (q := fullShare) (f := a3 m c) (Finset.subset_univ _)) $$ H
  iintro H
  rw [e]
  iapply Hk
  iexact H

/-! ## The hop's slots -/

/-- Slot `k` reading as `v`. -/
def slotP (k : Fin 2) (v : FVec F S1x128x2048 .bf16) : sProp 𝕄 :=
  iprop(∃ f, ⌜(commM.access (crect k)).read (Elt F) f = v⌝ ∗ commP (F := F) c (cset k) fullShare f)
def slotAny (k : Fin 2) : sProp 𝕄 := iprop(∃ f, commP (F := F) c (cset k) fullShare f)

theorem slot_any (k : Fin 2) (v : FVec F S1x128x2048 .bf16) : slotP (F := F) c k v ⊢ slotAny c k := by
  unfold slotP slotAny
  iintro ⟨%f, %h, H⟩
  iexists f; iexact H
theorem slot_landed : recvPay m 0 c ⊢ slotP c 1 (C0 m (left c)) := by
  unfold recvPay slotP
  rw [if_pos rfl]
  iintro H
  iexists (commC m c)
  isplitr; · ipureintro; exact slot_read m c
  iexact H

theorem crect_sub (k : Fin 2) : (commM.access (crect k)).set ⊆ cset k := (View.set_slice_whole _ _).subset

theorem step_ldSlot (k : Fin 2) (v : FVec F S1x128x2048 .bf16) {off : Fin 3 → ℕ} (ho : off = ![k.val, 0, 0]) {inb : ∀ a, off a + S1x128x2048.size a ≤ S2x128x2048.size a}
    {hl : commM.view.LoadsAt (Rect.unit (s := S2x128x2048) off S1x128x2048.size inb).toLoadRect} {α : Type} {Q : α → sProp 𝕄} {kk : Vec F S1x128x2048 .bf16 → Prog (TpuEff nD τ sig (Elt F) Λ₀ .tc) α} :
    slotP c k v ⊢ iprop((slotP c k v -∗ W0 c (kk v) Q) -∗ W0 c (.op (.load commM (Rect.unit (s := S2x128x2048) off S1x128x2048.size inb).toLoadRect hl) kk) Q) := by
  subst ho
  unfold slotP
  iintro ⟨%f, %hf, H⟩ Hk
  subst hf
  iapply (wp_load_rect 𝒱₀ (c : Thread nD τ) none Set.univ (m := commM) (r := crect k) (S := cset k) (q := fullShare) (f := f) (crect_sub k)) $$ H
  iintro H
  iapply Hk
  iexists f
  isplitr; · ipureintro; rfl
  iexact H

/-- A load whose value is not used. -/
theorem step_deadSlot (k : Fin 2) {off : Fin 3 → ℕ} (ho : off = ![k.val, 0, 0]) {inb : ∀ a, off a + S1x128x2048.size a ≤ S2x128x2048.size a}
    {hl : commM.view.LoadsAt (Rect.unit (s := S2x128x2048) off S1x128x2048.size inb).toLoadRect} {α : Type} {Q : α → sProp 𝕄} {kk : Vec F S1x128x2048 .bf16 → Prog (TpuEff nD τ sig (Elt F) Λ₀ .tc) α} :
    slotAny (F := F) c k ⊢ iprop((∀ v, slotAny c k -∗ W0 c (kk v) Q) -∗ W0 c (.op (.load commM (Rect.unit (s := S2x128x2048) off S1x128x2048.size inb).toLoadRect hl) kk) Q) := by
  subst ho
  unfold slotAny
  iintro ⟨%f, H⟩ Hk
  iapply (wp_load_rect 𝒱₀ (c : Thread nD τ) none Set.univ (m := commM) (r := crect k) (S := cset k) (q := fullShare) (f := f) (crect_sub k)) $$ H
  iintro H
  iapply Hk
  iexists f; iexact H

theorem step_stSlot (k : Fin 2) (w : FVec F S1x128x2048 .bf16) {off : Fin 3 → ℕ} (ho : off = ![k.val, 0, 0]) {inb : ∀ a, off a + S1x128x2048.size a ≤ S2x128x2048.size a}
    {hx : (commM.access (Rect.unit (s := S2x128x2048) off S1x128x2048.size inb)).Stores Finset.univ} {hm} {α : Type} {Q : α → sProp 𝕄} {kk : PUnit → Prog (TpuEff nD τ sig (Elt F) Λ₀ .tc) α} :
    slotAny (F := F) c k ⊢ iprop((slotP c k w -∗ W0 c (kk ⟨⟩) Q) -∗ W0 c (.op (.store commM (Rect.unit (s := S2x128x2048) off S1x128x2048.size inb) w Finset.univ hx hm) kk) Q) := by
  subst ho
  unfold slotAny slotP
  iintro ⟨%f, H⟩ Hk
  iapply (wp_store 𝒱₀ (c : Thread nD τ) none Set.univ (m := commM) (r := crect k) (S := cset k) (f := f) (crect_sub k)) $$ H
  iintro H
  iapply Hk
  iexists ((commM.access (crect k)).write (Elt F) f w Finset.univ)
  isplitr; · ipureintro; exact View.read_write_univ _ _
  iexact H

/-- What the hop takes: slot 0 at the sums it carries. -/
theorem slot_send : slotP c 0 (C0 m c) ⊢ sendPay m 0 c := by
  unfold slotP sendPay
  rw [if_pos rfl]
  iintro ⟨%f, %hf, H⟩
  iapply (Entails.of_eq (pointsTo_congr (fun i hi => ?_))) $$ H
  have hs : (commM.access (crect 0)).set = cset 0 := View.set_slice_whole _ _
  have hi' : i ∈ (commM.access (crect 0)).set := by rw [hs]; exact hi
  obtain ⟨j, -, rfl⟩ := Finset.mem_map.mp hi'
  exact (congrFun hf j).trans (commC_0 m c j).symm

/-! ## The gathered buffer -/

theorem prect_sub (p : Fin 16) : (allM.access (prect p)).set ⊆ pset p := (View.set_slice_whole _ _).subset
theorem qrect_sub (q : Fin 4) : (allM.access (qrect q)).set ⊆ qset q := (View.set_slice_whole _ _).subset

theorem step_deadPiece (p : Fin 16) {off : Fin 2 → ℕ} (ho : off = poff p) {inb : ∀ a, off a + S128x2048.size a ≤ S2048x2048.size a}
    {hl : allM.view.LoadsAt (Rect.unit (s := S2048x2048) off S128x2048.size inb).toLoadRect} {α : Type} {Q : α → sProp 𝕄} {kk : Vec F S128x2048 .bf16 → Prog (TpuEff nD τ sig (Elt F) Λ₀ .tc) α} :
    iprop(∃ f, allP (F := F) c (pset p) fullShare f)
      ⊢ iprop((∀ v, (∃ f, allP (F := F) c (pset p) fullShare f) -∗ W0 c (kk v) Q) -∗ W0 c (.op (.load allM (Rect.unit (s := S2048x2048) off S128x2048.size inb).toLoadRect hl) kk) Q) := by
  subst ho
  iintro ⟨%f, H⟩ Hk
  iapply (wp_load_rect 𝒱₀ (c : Thread nD τ) none Set.univ (m := allM) (r := prect p) (S := pset p) (q := fullShare) (f := f) (prect_sub p)) $$ H
  iintro H
  iapply Hk
  iexists f; iexact H

theorem step_stOwn {off : Fin 2 → ℕ} (ho : off = poff (pc c 0)) {inb : ∀ a, off a + S128x2048.size a ≤ S2048x2048.size a} {w : FVec F S128x2048 .bf16} (hw : w = own m c)
    {hx : (allM.access (Rect.unit (s := S2048x2048) off S128x2048.size inb)).Stores Finset.univ} {hm} {α : Type} {Q : α → sProp 𝕄} {kk : PUnit → Prog (TpuEff nD τ sig (Elt F) Λ₀ .tc) α} :
    iprop(∃ f, allP (F := F) c (pset (pc c 0)) fullShare f)
      ⊢ iprop((allP c (pset (pc c 0)) fullShare (G m) -∗ W0 c (kk ⟨⟩) Q) -∗ W0 c (.op (.store allM (Rect.unit (s := S2048x2048) off S128x2048.size inb) w Finset.univ hx hm) kk) Q) := by
  subst ho hw
  iintro ⟨%f, H⟩ Hk
  iapply (wp_store 𝒱₀ (c : Thread nD τ) none Set.univ (m := allM) (r := prect (pc c 0)) (S := pset (pc c 0)) (f := f) (prect_sub (pc c 0))) $$ H
  iintro H
  iapply Hk
  iapply (Entails.of_eq (pointsTo_congr (piece_store m c f))) $$ H

/-- A quarter of it, at the loads' share. -/
abbrev quartP (q : Fin 4) : sProp 𝕄 := allP c (qset q) KSh (G m)

theorem step_ldQuart (q : Fin 4) {off : Fin 2 → ℕ} (ho : off = qoff q) {inb : ∀ a, off a + S512x2048.size a ≤ S2048x2048.size a}
    {hl : allM.view.LoadsAt (Rect.unit (s := S2048x2048) off S512x2048.size inb).toLoadRect} {α : Type} {Q : α → sProp 𝕄} {kk : Vec F S512x2048 .bf16 → Prog (TpuEff nD τ sig (Elt F) Λ₀ .tc) α} :
    quartP m c q
      ⊢ iprop((quartP m c q -∗ W0 c (kk fun j => G m (qemb q j)) Q) -∗ W0 c (.op (.load allM (Rect.unit (s := S2048x2048) off S512x2048.size inb).toLoadRect hl) kk) Q) := by
  subst ho
  iintro H Hk
  iapply (wp_load_rect 𝒱₀ (c : Thread nD τ) none Set.univ (m := allM) (r := qrect q) (S := qset q) (q := KSh) (f := G m) (qrect_sub q)) $$ H
  iintro H
  iapply Hk
  iexact H

/-! ## Strips and the result -/

abbrev stripPt (k : Fin 2) (f : (cc0_scratch3 : Ref sig .tc).ty.Contents (Elt F)) : sProp 𝕄 := (stripM.view.loc (c : Thread nD τ)) ↦[oset k]{fullShare} f
abbrev outPt (q : Fin 4) (f : (main_v1 : Ref sig .tc).ty.Contents (Elt F)) : sProp 𝕄 := (outM.view.loc (c : Thread nD τ)) ↦[qset q]{fullShare} f
def stripAny (k : Fin 2) : sProp 𝕄 := iprop(∃ f, stripPt (F := F) c k f)
def outAny (q : Fin 4) : sProp 𝕄 := iprop(∃ f, outPt (F := F) c q f)
abbrev outDone (q : Fin 4) : sProp 𝕄 := outPt c q (Out m)
/-- Strip `k` holding quarter `q`. -/
def stripP (k : Fin 2) (q : Fin 4) : sProp 𝕄 :=
  iprop(∃ f, ⌜(oslotM k).view.read (Elt F) f = fun j => strip m q (leadQ j)⌝ ∗ stripPt (F := F) c k f)
/-- Strip `k` on its way to quarter `q` of the result. -/
def outFlight (k : Fin 2) (q : Fin 4) : sProp 𝕄 :=
  iprop(∃ f fd, ⌜(oslotM k).view.read (Elt F) f = fun j => strip m q (leadQ j)⌝
    ∗ Flight EC (c : Thread nD τ) (.dma (stsS k)) () (quarterM q).view.dmaCredit
        iprop(outPt (F := F) c q ((quarterM q).view.write (Elt F) fd ((oslotM k).view.read (Elt F) f) Finset.univ) ∗ stripPt (F := F) c k f))

theorem orect_sub (k : Fin 2) : (stripM.access (orect k)).set ⊆ oset k := (View.set_slice_whole _ _).subset

theorem step_deadStrip (k : Fin 2) {off : Fin 3 → ℕ} (ho : off = ![k.val, 0, 0]) {inb : ∀ a, off a + S1x512x2048.size a ≤ S2x512x2048.size a}
    {hl : stripM.view.LoadsAt (Rect.unit (s := S2x512x2048) off S1x512x2048.size inb).toLoadRect} {α : Type} {Q : α → sProp 𝕄} {kk : Vec F S1x512x2048 .f32 → Prog (TpuEff nD τ sig (Elt F) Λ₀ .tc) α} :
    stripAny (F := F) c k ⊢ iprop((∀ v, stripAny c k -∗ W0 c (kk v) Q) -∗ W0 c (.op (.load stripM (Rect.unit (s := S2x512x2048) off S1x512x2048.size inb).toLoadRect hl) kk) Q) := by
  subst ho
  unfold stripAny
  iintro ⟨%f, H⟩ Hk
  iapply (wp_load_rect 𝒱₀ (c : Thread nD τ) none Set.univ (m := stripM) (r := orect k) (S := oset k) (q := fullShare) (f := f) (orect_sub k)) $$ H
  iintro H
  iapply Hk
  iexists f; iexact H

theorem step_stStrip (k : Fin 2) (q : Fin 4) {off : Fin 3 → ℕ} (ho : off = ![k.val, 0, 0]) {inb : ∀ a, off a + S1x512x2048.size a ≤ S2x512x2048.size a}
    {w : FVec F S1x512x2048 .f32} (hw : w = strip m q)
    {hx : (stripM.access (Rect.unit (s := S2x512x2048) off S1x512x2048.size inb)).Stores Finset.univ} {hm} {α : Type} {Q : α → sProp 𝕄} {kk : PUnit → Prog (TpuEff nD τ sig (Elt F) Λ₀ .tc) α} :
    stripAny (F := F) c k ⊢ iprop((stripP m c k q -∗ W0 c (kk ⟨⟩) Q) -∗ W0 c (.op (.store stripM (Rect.unit (s := S2x512x2048) off S1x512x2048.size inb) w Finset.univ hx hm) kk) Q) := by
  subst ho hw
  unfold stripAny stripP
  iintro ⟨%f, H⟩ Hk
  iapply (wp_store 𝒱₀ (c : Thread nD τ) none Set.univ (m := stripM) (r := orect k) (S := oset k) (f := f) (orect_sub k)) $$ H
  iintro H
  iapply Hk
  iexists ((stripM.access (orect k)).write (Elt F) f (strip m q) Finset.univ)
  isplitr; · ipureintro; exact strip_read k f (strip m q)
  iexact H

theorem step_out (k : Fin 2) (q : Fin 4) {off : Fin 2 → ℕ} (ho : off = qoff q) {inb : ∀ a, off a + S512x2048.size a ≤ S2048x2048.size a} {s : DmaSem sig} (hs : s = stsS k)
    {h1 : (oslotM k).view.WordExact} {h2 : (outM.slice (Rect.unit (s := S2048x2048) off S512x2048.size inb) (fun _ => rfl)).view.WordExact}
    {h3 : DmaTarget.Typed .vmem (.dma s) (.here (outM.slice (Rect.unit (s := S2048x2048) off S512x2048.size inb) (fun _ => rfl)) : DmaTarget nD τ sig .tc .hbm S512x2048 .f32)}
    {α : Type} {Q : α → sProp 𝕄} {kk : PUnit → Prog (TpuEff nD τ sig (Elt F) Λ₀ .tc) α} :
    iprop(stripP m c k q ∗ outAny (F := F) c q ∗ semVal (stsCell c k) 0)
      ⊢ iprop((outFlight m c k q -∗ W0 c (kk ⟨⟩) Q)
          -∗ W0 c (.op (.enqueueDma (oslotM k) (.here (outM.slice (Rect.unit (s := S2048x2048) off S512x2048.size inb) (fun _ => rfl))) (.dma s) h1 h2 h3) kk) Q) := by
  subst ho hs
  unfold stripP outAny outFlight
  iintro ⟨⟨%f, %hf, Hs⟩, ⟨%fd, Hd⟩, Hz⟩ Hk
  iapply (wp_dmaLocal EC 𝒱₀ (c : Thread nD τ) none (src := oslotM k) (dst := quarterM q) (sm := .dma (stsS k)) (Sd := qset q) (q := fullShare) (fs := f) (fd := fd) () (quarterM q).view.dmaCredit rfl
    (View.dmaCredit_pos _ (by decide)) (by rw [quarter_set])) $$ [Hs Hd Hz]
  · isplitl [Hs]; · rw [oslot_set]; iexact Hs
    isplitl [Hd]; · iexact Hd
    iexact Hz
  iintro Hf
  iapply Hk
  iexists f
  iexists fd
  isplitr; · ipureintro; exact hf
  iapply (Flight_mono EC (c : Thread nD τ) (sep_mono_right (Entails.of_eq (congrArg (fun S => iprop((stripM.view.loc (c : Thread nD τ)) ↦[S]{fullShare} f)) (oslot_set k))))) $$ Hf

theorem step_outDone (k : Fin 2) (q : Fin 4) (n : ℕ) {s : DmaSem sig} (hs : s = stsS k) {off : Fin 2 → ℕ} {inb : ∀ a, off a + S512x2048.size a ≤ S2048x2048.size a}
    {h1 : (oslotM k).view.WordExact} {h2 : (outM.slice (Rect.unit (s := S2048x2048) off S512x2048.size inb) (fun _ => rfl)).view.WordExact}
    {α : Type} {Q : α → sProp 𝕄} {kk : PUnit → Prog (TpuEff nD τ sig (Elt F) Λ₀ .tc) α} :
    iprop(ctx m K ∗ outFlight m c k q ∗ ow c (oweS n c))
      ⊢ iprop(((outDone m c q ∗ stripAny (F := F) c k ∗ semVal (stsCell c k) 0 ∗ ow c (oweS n c)) -∗ W0 c (kk ⟨⟩) Q)
          -∗ W0 c (.op (.waitDma2 s (oslotM k) (outM.slice (Rect.unit (s := S2048x2048) off S512x2048.size inb) (fun _ => rfl)) h1 h2) kk) Q) := by
  subst hs
  unfold outFlight stripAny
  iintro ⟨#Hc, ⟨%f, %fd, %hf, Hf⟩, HO⟩ Hk
  iapply (step_local m K c (oweS n c) (.inl ⟨n, rfl⟩) (stsS k) (lv_sts c k) (srcw := oslotM k) (dstw := outM.slice (Rect.unit (s := S2048x2048) off S512x2048.size inb) (fun _ => rfl)) (by rfl)) $$ [Hf HO]
  · isplitr; · iexact Hc
    isplitl [Hf]; · iexact Hf
    iexact HO
  iintro ⟨⟨Hd, Hs⟩, Hz, HO⟩
  iapply Hk
  isplitl [Hd]
  · rw [hf]
    iapply (Entails.of_eq (pointsTo_congr (quarter_land m q fd))) $$ Hd
  isplitl [Hs]; · iexists f; iexact Hs
  isplitl [Hz]; · iexact Hz
  iexact HO

theorem w_ret {α : Type} (r : α) (Q : α → sProp 𝕄) : Q r ⊢ W0 c (.ret r) Q := by
  show Q r ⊢ wp frame _ _ _ _
  rw [wp_ret]
  iintro H
  imodintro
  iexact H

end Cert.KernelIdeal.Run

end
-- ==== Proof.Pieces.lean ====
/-
# The pieces of the gathered rows, and their shares

A piece that has come in whole is split in the share the loads read with and the shares the onward transfers read with;
at the end the shares make the piece whole again, and the sixteen pieces the buffer.
-/
module

public import proofs.«01_k».proof.Proof.Local

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-- The piece transfer `t` brings (transfer 0: the device's own), at share `q`. -/
abbrev pp (t : Fin 16) (q : PosShare TreeShare) : sProp 𝕄 := allP c (pset (got t c)) q (G m)

theorem split_LK (t : Fin 16) : pp m c t fullShare ⊣⊢ iprop(pp m c t LSh ∗ pp m c t KSh) :=
  pointsTo_share (PosShare.mem_left_op_right _)
theorem split_L2 (t : Fin 16) : pp m c t LSh ⊣⊢ iprop(pp m c t LSh.left ∗ pp m c t LSh.right) :=
  pointsTo_share (PosShare.mem_left_op_right _)
theorem split_LL2 (t : Fin 16) : pp m c t LSh.left ⊣⊢ iprop(pp m c t LSh.left.left ∗ pp m c t LSh.left.right) :=
  pointsTo_share (PosShare.mem_left_op_right _)
theorem split_LR2 (t : Fin 16) : pp m c t LSh.right ⊣⊢ iprop(pp m c t LSh.right.left ∗ pp m c t LSh.right.right) :=
  pointsTo_share (PosShare.mem_left_op_right _)

theorem split_all (t : Fin 16) : pp m c t fullShare
    ⊣⊢ iprop(pp m c t KSh ∗ pp m c t LSh.left.left ∗ pp m c t LSh.left.right ∗ pp m c t LSh.right.left ∗ pp m c t LSh.right.right) := by
  constructor
  · iintro H
    ihave H := (split_LK m c t).1 $$ H
    icases H with ⟨HL, HK⟩
    ihave H := (split_L2 m c t).1 $$ HL
    icases H with ⟨HL, HR⟩
    ihave H := (split_LL2 m c t).1 $$ HL
    icases H with ⟨H1, H2⟩
    ihave H := (split_LR2 m c t).1 $$ HR
    icases H with ⟨H3, H4⟩
    isplitl [HK]; · iexact HK
    isplitl [H1]; · iexact H1
    isplitl [H2]; · iexact H2
    isplitl [H3]; · iexact H3
    iexact H4
  · iintro ⟨HK, H1, H2, H3, H4⟩
    iapply (split_LK m c t).2
    isplitr [HK]
    · iapply (split_L2 m c t).2
      isplitl [H1 H2]
      · iapply (split_LL2 m c t).2
        isplitl [H1]; · iexact H1
        iexact H2
      iapply (split_LR2 m c t).2
      isplitl [H3]; · iexact H3
      iexact H4
    iexact HK

theorem recv_eq (t : Fin 16) (ht : t ≠ 0) : recvPay m t c = pp m c t fullShare := if_neg ht
theorem send_eq (t : Fin 16) (ht : t ≠ 0) (s : Fin 16) (h : sent t c = got s c) : sendPay m t c = pp m c s (shr t) := by
  unfold sendPay; rw [if_neg ht, h]

/-- Where each transfer after the hop takes its piece from. -/
def from' (t : Fin 16) : Fin 16 := ![0, 0, 0, 0, 0, 4, 4, 4, 7, 7, 7, 10, 10, 2, 6, 8] t
theorem sent_got (t : Fin 16) (ht : t ≠ 0) : sent t c = got (from' t) c := by revert ht; revert t c; decide +kernel

theorem send_pp (t : Fin 16) (ht : t ≠ 0) : sendPay m t c = pp m c (from' t) (shr t) := send_eq m c t ht _ (sent_got c t ht)

theorem split_own : pp m c 0 fullShare ⊣⊢ iprop(pp m c 0 KSh ∗ sendPay m 4 c ∗ sendPay m 1 c ∗ sendPay m 2 c ∗ sendPay m 3 c) := by
  rw [send_pp m c 4 (by decide), send_pp m c 1 (by decide), send_pp m c 2 (by decide), send_pp m c 3 (by decide)]
  exact split_all m c 0
theorem split_4 : recvPay m 4 c ⊣⊢ iprop(pp m c 4 KSh ∗ sendPay m 7 c ∗ sendPay m 5 c ∗ sendPay m 6 c ∗ pp m c 4 LSh.right.right) := by
  rw [recv_eq m c 4 (by decide), send_pp m c 7 (by decide), send_pp m c 5 (by decide), send_pp m c 6 (by decide)]
  exact split_all m c 4
theorem split_7 : recvPay m 7 c ⊣⊢ iprop(pp m c 7 KSh ∗ sendPay m 10 c ∗ sendPay m 8 c ∗ sendPay m 9 c ∗ pp m c 7 LSh.right.right) := by
  rw [recv_eq m c 7 (by decide), send_pp m c 10 (by decide), send_pp m c 8 (by decide), send_pp m c 9 (by decide)]
  exact split_all m c 7
theorem split_10 : recvPay m 10 c ⊣⊢ iprop(pp m c 10 KSh ∗ pp m c 10 LSh.left.left ∗ sendPay m 11 c ∗ sendPay m 12 c ∗ pp m c 10 LSh.right.right) := by
  rw [recv_eq m c 10 (by decide), send_pp m c 11 (by decide), send_pp m c 12 (by decide)]
  exact split_all m c 10
theorem split_2 : recvPay m 2 c ⊣⊢ iprop(sendPay m 13 c ∗ pp m c 2 KSh) := by
  rw [recv_eq m c 2 (by decide), send_pp m c 13 (by decide)]; exact split_LK m c 2
theorem split_6 : recvPay m 6 c ⊣⊢ iprop(sendPay m 14 c ∗ pp m c 6 KSh) := by
  rw [recv_eq m c 6 (by decide), send_pp m c 14 (by decide)]; exact split_LK m c 6
theorem split_8 : recvPay m 8 c ⊣⊢ iprop(sendPay m 15 c ∗ pp m c 8 KSh) := by
  rw [recv_eq m c 8 (by decide), send_pp m c 15 (by decide)]; exact split_LK m c 8
theorem split_rest (t : Fin 16) (ht : t ≠ 0) : recvPay m t c ⊣⊢ iprop(pp m c t LSh ∗ pp m c t KSh) := by
  rw [recv_eq m c t ht]; exact split_LK m c t

/-! ## Quarters -/

theorem all_biUnion {T : Type} (S : Finset T) (KK : T → Finset S2048x2048.Idx) (q : PosShare TreeShare) (f : (cc0_scratch2 : Ref sig .tc).ty.Contents (Elt F))
    (h : ∀ t ∈ S, ∀ t' ∈ S, t ≠ t' → Disjoint (KK t) (KK t')) :
    allP c (S.biUnion KK) q f = bigSep S fun t => allP c (KK t) q f :=
  pointsTo_biUnion (ℓ := allM.view.loc (c : Thread nD τ)) S KK h
theorem out_biUnion {T : Type} (S : Finset T) (KK : T → Finset S2048x2048.Idx) (f : (main_v1 : Ref sig .tc).ty.Contents (Elt F))
    (h : ∀ t ∈ S, ∀ t' ∈ S, t ≠ t' → Disjoint (KK t) (KK t')) :
    ((outM.view.loc (c : Thread nD τ)) ↦[S.biUnion KK]{fullShare} f : sProp 𝕄) = bigSep S fun t => ((outM.view.loc (c : Thread nD τ)) ↦[KK t]{fullShare} f : sProp 𝕄) :=
  pointsTo_biUnion (ℓ := outM.view.loc (c : Thread nD τ)) S KK h

theorem quarter_pp (d : Dev nD) (t0 t1 t2 t3 : Fin 16) (h0 : got t0 c = pc d 0) (h1 : got t1 c = pc d 1) (h2 : got t2 c = pc d 2) (h3 : got t3 c = pc d 3) :
    quartP m c (qr d) = iprop(pp m c t0 KSh ∗ pp m c t1 KSh ∗ pp m c t2 KSh ∗ pp m c t3 KSh) := by
  refine (congrArg (fun S => allP c S KSh (G m)) (qset_pieces d)).trans ?_
  refine (all_biUnion c Finset.univ (fun k : Fin 4 => pset (pc d k)) KSh (G m) fun a _ b _ hab => pset_disjoint fun h => hab (pc_injective d h)).trans ?_
  refine (bigSep_univ_eq_bigSepL [(0 : Fin 4), 1, 2, 3] (by decide) (by decide) _).trans ?_
  simp only [bigSepL_cons_cons, bigSepL_singleton, ← h0, ← h1, ← h2, ← h3]
  rfl

theorem quarter_own : quartP m c (qr c) = iprop(pp m c 0 KSh ∗ pp m c 4 KSh ∗ pp m c 7 KSh ∗ pp m c 10 KSh) :=
  quarter_pp m c c 0 4 7 10 (by revert c; decide +kernel) (by revert c; decide +kernel) (by revert c; decide +kernel) (by revert c; decide +kernel)
theorem quarter_x : quartP m c (qr (xn c)) = iprop(pp m c 1 KSh ∗ pp m c 5 KSh ∗ pp m c 8 KSh ∗ pp m c 11 KSh) :=
  quarter_pp m c (xn c) 1 5 8 11 (by revert c; decide +kernel) (by revert c; decide +kernel) (by revert c; decide +kernel) (by revert c; decide +kernel)
theorem quarter_y : quartP m c (qr (yn c)) = iprop(pp m c 2 KSh ∗ pp m c 6 KSh ∗ pp m c 9 KSh ∗ pp m c 12 KSh) :=
  quarter_pp m c (yn c) 2 6 9 12 (by revert c; decide +kernel) (by revert c; decide +kernel) (by revert c; decide +kernel) (by revert c; decide +kernel)
theorem quarter_xy : quartP m c (qr (xn (yn c))) = iprop(pp m c 13 KSh ∗ pp m c 14 KSh ∗ pp m c 15 KSh ∗ pp m c 3 KSh) :=
  quarter_pp m c (xn (yn c)) 13 14 15 3 (by revert c; decide +kernel) (by revert c; decide +kernel) (by revert c; decide +kernel) (by revert c; decide +kernel)

/-! ## The whole buffers -/

theorem iff_of_eq' {P P' R : sProp 𝕄} (h : P = P') (h' : P' ⊣⊢ R) : P ⊣⊢ R := by rw [h]; exact h'
theorem all_split (f : (cc0_scratch2 : Ref sig .tc).ty.Contents (Elt F)) :
    allP c Finset.univ fullShare f = bigSep Finset.univ fun t : Fin 16 => allP c (pset (got t c)) fullShare f := by
  refine (congrArg (fun S => allP c S fullShare f) (pset_cover c)).trans ?_
  exact all_biUnion c Finset.univ (fun t : Fin 16 => pset (got t c)) fullShare f fun a _ b _ hab => pset_disjoint fun h => hab (got_injective c h)

theorem comm_split (f : (cc0_scratch1 : Ref sig .tc).ty.Contents (Elt F)) :
    commP c Finset.univ fullShare f ⊣⊢ iprop(commP c (cset 0) fullShare f ∗ commP c (cset 1) fullShare f) := by
  refine (iff_of_eq' (congrArg (fun S => ((commM.view.loc (c : Thread nD τ)) ↦[S]{fullShare} f : sProp 𝕄)) cset_cover)) (pointsTo_union (ℓ := commM.view.loc (c : Thread nD τ)) cset_disjoint)
theorem comm_join : iprop(slotAny (F := F) c 0 ∗ slotAny c 1) ⊢ iprop(∃ f, commP (F := F) c Finset.univ fullShare f) := by
  unfold slotAny
  iintro ⟨⟨%f, H⟩, ⟨%g, H'⟩⟩
  ihave H := (pointsTo_join (ℓ := commM.view.loc (c : Thread nD τ)) cset_disjoint) $$ [H H']
  · isplitl [H]; · iexact H
    iexact H'
  iexists _
  iapply (Entails.of_eq (congrArg (fun S => ((commM.view.loc (c : Thread nD τ)) ↦[S]{fullShare} _ : sProp 𝕄)) cset_cover.symm)) $$ H

theorem strip_split (f : (cc0_scratch3 : Ref sig .tc).ty.Contents (Elt F)) :
    ((stripM.view.loc (c : Thread nD τ)) ↦[Finset.univ]{fullShare} f : sProp 𝕄) ⊣⊢ iprop(stripPt c 0 f ∗ stripPt c 1 f) := by
  refine (iff_of_eq' (congrArg (fun S => ((stripM.view.loc (c : Thread nD τ)) ↦[S]{fullShare} f : sProp 𝕄)) oset_cover)) (pointsTo_union (ℓ := stripM.view.loc (c : Thread nD τ)) oset_disjoint)
theorem strip_join : iprop(stripAny (F := F) c 0 ∗ stripAny c 1) ⊢ iprop(∃ f, (stripM.view.loc (c : Thread nD τ)) ↦[Finset.univ]{fullShare} f) := by
  unfold stripAny
  iintro ⟨⟨%f, H⟩, ⟨%g, H'⟩⟩
  ihave H := (pointsTo_join (ℓ := stripM.view.loc (c : Thread nD τ)) oset_disjoint) $$ [H H']
  · isplitl [H]; · iexact H
    iexact H'
  iexists _
  iapply (Entails.of_eq (congrArg (fun S => ((stripM.view.loc (c : Thread nD τ)) ↦[S]{fullShare} _ : sProp 𝕄)) oset_cover.symm)) $$ H

theorem out_eq (f : (main_v1 : Ref sig .tc).ty.Contents (Elt F)) :
    ((outM.view.loc (c : Thread nD τ)) ↦[Finset.univ]{fullShare} f : sProp 𝕄)
      = iprop(outPt c (qr c) f ∗ outPt c (qr (xn c)) f ∗ outPt c (qr (yn c)) f ∗ outPt c (qr (xn (yn c))) f) := by
  refine (congrArg (fun S => ((outM.view.loc (c : Thread nD τ)) ↦[S]{fullShare} f : sProp 𝕄)) qset_cover).trans ?_
  refine (out_biUnion c Finset.univ qset f fun a _ b _ hab => qset_disjoint hab).trans ?_
  refine (bigSep_univ_eq_bigSepL [qr c, qr (xn c), qr (yn c), qr (xn (yn c))] (by revert c; decide +kernel) (by revert c; decide +kernel) _).trans ?_
  simp only [bigSepL_cons_cons, bigSepL_singleton]
  rfl

end Cert.KernelIdeal.Run

end
-- ==== Proof.Parts1.lean ====
/-
# The body, part by part

Each part of the body from what it takes to what it leaves.
-/
module

public import proofs.«01_k».proof.Proof.Pieces

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-! ## What the parts are stated over -/

abbrev ringV : (cc0_scratch0 : Ref sig .tc).ty.Contents (Elt F) := fun j => a0 m c (pemb (pc (right c) 0) j)
abbrev partV : (cc0_scratch0 : Ref sig .tc).ty.Contents (Elt F) := fun j => a1 m c (p3emb (pc c 0) j)
abbrev resV : (cc0_scratch0 : Ref sig .tc).ty.Contents (Elt F) := fun j => a2 m c (pemb (pc c 0) j)
abbrev arr0 : sProp 𝕄 := (ringM.view.loc (c : Thread nD τ)) ↦[Finset.univ]{fullShare} (a0 m c)
abbrev arr1 : sProp 𝕄 := (partM.view.loc (c : Thread nD τ)) ↦[Finset.univ]{fullShare} (a1 m c)
abbrev arr2 : sProp 𝕄 := (resM.view.loc (c : Thread nD τ)) ↦[Finset.univ]{fullShare} (a2 m c)
abbrev ownP : sProp 𝕄 := allP c (pset (pc c 0)) fullShare (G m)
def barKit : sProp 𝕄 := iprop(cred (tallyAt (barCell c) () 6) ∗ atPos ER (barCell c) 0 ∅ 0)
/-- A transfer's kit without its landing place. -/
def preKit (c : Dev nD) (t : Fin 16) : sProp 𝕄 :=
  iprop(dutyTok ER (sendCell t c) 0 0 ∗ dutyTok ER (recvCell t (dst t c)) 0 0 ∗ atPos ER (sendCell t c) 0 ∅ 0)
def lands (c : Dev nD) : sProp 𝕄 := bigSep Finset.univ fun t : Fin 16 => land (F := F) t c
def preKits (c : Dev nD) : sProp 𝕄 := bigSep Finset.univ (preKit (F := F) c)

theorem stage_any (v : (cc0_scratch0 : Ref sig .tc).ty.Contents (Elt F)) : stageP c v ⊢ stageAny (F := F) c := by
  unfold stageAny
  iintro H
  iexists v; iexact H
theorem slot_back : sendPay m 0 c ⊢ slotAny (F := F) c 0 := by
  unfold sendPay slotAny
  rw [if_pos rfl]
  iintro H
  iexists (commC m c); iexact H
theorem own_split : ownP m c ⊢ iprop(pp m c 0 KSh ∗ sendPay m 4 c ∗ sendPay m 1 c ∗ sendPay m 2 c ∗ sendPay m 3 c) := (split_own m c).1

/-- Sixteen things one by one. -/
theorem sep16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  refine (bigSep_univ_eq_bigSepL [(0 : Fin 16), 1, 2, 3, 4, 5, 6, 7, 8, 9, 10, 11, 12, 13, 14, 15] (by decide) (by decide) Φ).trans ?_
  simp only [bigSepL_cons_cons, bigSepL_singleton]
  rfl

theorem kits_intro : iprop(lands (F := F) c ∗ preKits (F := F) c)
    ⊢ iprop(sendKit (F := F) 0 c ∗ sendKit (F := F) 1 c ∗ sendKit (F := F) 2 c ∗ sendKit (F := F) 3 c ∗ sendKit (F := F) 4 c ∗ sendKit (F := F) 5 c ∗ sendKit (F := F) 6 c ∗ sendKit (F := F) 7 c ∗ sendKit (F := F) 8 c ∗ sendKit (F := F) 9 c ∗ sendKit (F := F) 10 c ∗ sendKit (F := F) 11 c ∗ sendKit (F := F) 12 c ∗ sendKit (F := F) 13 c ∗ sendKit (F := F) 14 c ∗ sendKit (F := F) 15 c) := by
  refine BIBase.Entails.trans ?_ (Entails.of_eq (sep16 fun t => sendKit (F := F) t c))
  unfold preKits lands
  rw [← bigSep_sep']
  exact BIBase.Entails.rfl

theorem step_bar' {α : Type} {Q : α → sProp 𝕄} {kk : PUnit → Prog (TpuEff nD τ sig (Elt F) Λ₀ .tc) α} :
    iprop(ctx m K ∗ ow c (owe 6 c) ∗ barKit c)
      ⊢ iprop(((ow c (oweS 0 c) ∗ semVal (barCell c) 0 ∗ lands (F := F) c) -∗ W0 c (kk ⟨⟩) Q)
          -∗ W0 c (.op (.semWait barS ((6#32 : BitVec 32).toInt)) kk) Q) := by
  unfold barKit lands
  rw [owe_last]
  exact step_bar m K c

theorem step_stageRing (O : CellTallies nD τ sig Unit) (hO : (∃ n, O = oweS n c) ∨ (∃ n, O = owe n c)) {s : DmaSem sig} (hs : s = ldS)
    {off off' : Fin 2 → ℕ} (ho : off = poff (pc (right c) 0)) {inb : ∀ a, off a + S128x2048.size a ≤ S2048x2048.size a} {inb' : ∀ a, off' a + S128x2048.size a ≤ S2048x2048.size a}
    {h1 : (ringM.slice (Rect.unit (s := S2048x2048) off S128x2048.size inb) (fun _ => rfl)).view.WordExact} {h2 : stageM.view.WordExact}
    {h3 : DmaTarget.Typed .hbm (.dma s) (.here stageM : DmaTarget nD τ sig .tc .vmem S128x2048 .f32)} {h4 : (ringM.slice (Rect.unit (s := S2048x2048) off' S128x2048.size inb') (fun _ => rfl)).view.WordExact} {h5 : stageM.view.WordExact}
    {α : Type} {Q : α → sProp 𝕄} {kk : PUnit → Prog (TpuEff nD τ sig (Elt F) Λ₀ .tc) α} :
    iprop(ctx m K ∗ arr0 m c ∗ stageAny (F := F) c ∗ semVal (ldCell c) 0 ∗ ow c O)
      ⊢ iprop(((arr0 m c ∗ stageP c (ringV m c) ∗ semVal (ldCell c) 0 ∗ ow c O) -∗ W0 c (kk ⟨⟩) Q)
          -∗ W0 c (.op (.enqueueDma (ringM.slice (Rect.unit (s := S2048x2048) off S128x2048.size inb) (fun _ => rfl)) (.here stageM) (.dma s) h1 h2 h3)
            fun _ => .op (.waitDma2 s (ringM.slice (Rect.unit (s := S2048x2048) off' S128x2048.size inb') (fun _ => rfl)) stageM h4 h5) kk) Q) := by
  subst ho
  have e : (ringM.slice (Rect.unit (s := S2048x2048) (poff (pc (right c) 0)) S128x2048.size inb) (fun _ => rfl)).view.read (Elt F) (a0 m c) = ringV m c := rfl
  rw [← e]
  exact step_stage m K c (ringM.slice (Rect.unit (s := S2048x2048) (poff (pc (right c) 0)) S128x2048.size inb) (fun _ => rfl))
    (ringM.slice (Rect.unit (s := S2048x2048) off' S128x2048.size inb') (fun _ => rfl)) (a0 m c) O hO hs
theorem step_stageRes (O : CellTallies nD τ sig Unit) (hO : (∃ n, O = oweS n c) ∨ (∃ n, O = owe n c)) {s : DmaSem sig} (hs : s = ldS)
    {off off' : Fin 2 → ℕ} (ho : off = poff (pc c 0)) {inb : ∀ a, off a + S128x2048.size a ≤ S2048x2048.size a} {inb' : ∀ a, off' a + S128x2048.size a ≤ S2048x2048.size a}
    {h1 : (resM.slice (Rect.unit (s := S2048x2048) off S128x2048.size inb) (fun _ => rfl)).view.WordExact} {h2 : stageM.view.WordExact}
    {h3 : DmaTarget.Typed .hbm (.dma s) (.here stageM : DmaTarget nD τ sig .tc .vmem S128x2048 .f32)} {h4 : (resM.slice (Rect.unit (s := S2048x2048) off' S128x2048.size inb') (fun _ => rfl)).view.WordExact} {h5 : stageM.view.WordExact}
    {α : Type} {Q : α → sProp 𝕄} {kk : PUnit → Prog (TpuEff nD τ sig (Elt F) Λ₀ .tc) α} :
    iprop(ctx m K ∗ arr2 m c ∗ stageAny (F := F) c ∗ semVal (ldCell c) 0 ∗ ow c O)
      ⊢ iprop(((arr2 m c ∗ stageP c (resV m c) ∗ semVal (ldCell c) 0 ∗ ow c O) -∗ W0 c (kk ⟨⟩) Q)
          -∗ W0 c (.op (.enqueueDma (resM.slice (Rect.unit (s := S2048x2048) off S128x2048.size inb) (fun _ => rfl)) (.here stageM) (.dma s) h1 h2 h3)
            fun _ => .op (.waitDma2 s (resM.slice (Rect.unit (s := S2048x2048) off' S128x2048.size inb') (fun _ => rfl)) stageM h4 h5) kk) Q) := by
  subst ho
  have e : (resM.slice (Rect.unit (s := S2048x2048) (poff (pc c 0)) S128x2048.size inb) (fun _ => rfl)).view.read (Elt F) (a2 m c) = resV m c := rfl
  rw [← e]
  exact step_stage m K c (resM.slice (Rect.unit (s := S2048x2048) (poff (pc c 0)) S128x2048.size inb) (fun _ => rfl))
    (resM.slice (Rect.unit (s := S2048x2048) off' S128x2048.size inb') (fun _ => rfl)) (a2 m c) O hO hs
theorem step_stagePart (O : CellTallies nD τ sig Unit) (hO : (∃ n, O = oweS n c) ∨ (∃ n, O = owe n c)) {s : DmaSem sig} (hs : s = ldS)
    {off off' : Fin 3 → ℕ} (ho : off = ![0, 128 * (pc c 0).val, 0]) {inb : ∀ a, off a + S1x128x2048.size a ≤ S1x2048x2048.size a} {inb' : ∀ a, off' a + S1x128x2048.size a ≤ S1x2048x2048.size a}
    {h1 : ((partM.slice (Rect.unit (s := S1x2048x2048) off S1x128x2048.size inb) (fun _ => rfl)).squeeze S128x2048 squeezes_S1x128x2048_S128x2048).view.WordExact} {h2 : stageM.view.WordExact}
    {h3 : DmaTarget.Typed .hbm (.dma s) (.here stageM : DmaTarget nD τ sig .tc .vmem S128x2048 .f32)}
    {h4 : ((partM.slice (Rect.unit (s := S1x2048x2048) off' S1x128x2048.size inb') (fun _ => rfl)).squeeze S128x2048 squeezes_S1x128x2048_S128x2048).view.WordExact} {h5 : stageM.view.WordExact}
    {α : Type} {Q : α → sProp 𝕄} {kk : PUnit → Prog (TpuEff nD τ sig (Elt F) Λ₀ .tc) α} :
    iprop(ctx m K ∗ arr1 m c ∗ stageAny (F := F) c ∗ semVal (ldCell c) 0 ∗ ow c O)
      ⊢ iprop(((arr1 m c ∗ stageP c (partV m c) ∗ semVal (ldCell c) 0 ∗ ow c O) -∗ W0 c (kk ⟨⟩) Q)
          -∗ W0 c (.op (.enqueueDma ((partM.slice (Rect.unit (s := S1x2048x2048) off S1x128x2048.size inb) (fun _ => rfl)).squeeze S128x2048 squeezes_S1x128x2048_S128x2048) (.here stageM) (.dma s) h1 h2 h3)
            fun _ => .op (.waitDma2 s ((partM.slice (Rect.unit (s := S1x2048x2048) off' S1x128x2048.size inb') (fun _ => rfl)).squeeze S128x2048 squeezes_S1x128x2048_S128x2048) stageM h4 h5) kk) Q) := by
  subst ho
  have e : ((partM.slice (Rect.unit (s := S1x2048x2048) ![0, 128 * (pc c 0).val, 0] S1x128x2048.size inb) (fun _ => rfl)).squeeze S128x2048 squeezes_S1x128x2048_S128x2048).view.read (Elt F) (a1 m c) = partV m c := by
    funext j
    show a1 m c ((Rect.unit (s := S1x2048x2048) ![0, 128 * (pc c 0).val, 0] S1x128x2048.size inb).emb (Shape.reshapeEquiv squeezes_S1x128x2048_S128x2048.numel_eq j)) = a1 m c (p3emb (pc c 0) j)
    rw [lead_eq]
    refine congrArg (a1 m c) (funext fun a => Fin.ext ?_)
    match a with
    | ⟨0, _⟩ => rfl
    | ⟨1, _⟩ => show 128 * (pc c 0).val + 1 * (j 0).val = 128 * (pc c 0).val + (j 0).val; rw [one_mul]
    | ⟨2, _⟩ => show 0 + 1 * (j 1).val = (j 1).val; rw [one_mul, zero_add]
  rw [← e]
  exact step_stage m K c ((partM.slice (Rect.unit (s := S1x2048x2048) ![0, 128 * (pc c 0).val, 0] S1x128x2048.size inb) (fun _ => rfl)).squeeze S128x2048 squeezes_S1x128x2048_S128x2048)
    ((partM.slice (Rect.unit (s := S1x2048x2048) off' S1x128x2048.size inb') (fun _ => rfl)).squeeze S128x2048 squeezes_S1x128x2048_S128x2048) (a1 m c) O hO hs

theorem step_deadOwn {off : Fin 2 → ℕ} (ho : off = poff (pc c 0)) {inb : ∀ a, off a + S128x2048.size a ≤ S2048x2048.size a}
    {hl : allM.view.LoadsAt (Rect.unit (s := S2048x2048) off S128x2048.size inb).toLoadRect} {α : Type} {Q : α → sProp 𝕄} {kk : Vec F S128x2048 .bf16 → Prog (TpuEff nD τ sig (Elt F) Λ₀ .tc) α} :
    iprop(∃ f, allP (F := F) c (pset (pc c 0)) fullShare f)
      ⊢ iprop((∀ v, (∃ f, allP (F := F) c (pset (pc c 0)) fullShare f) -∗ W0 c (kk v) Q) -∗ W0 c (.op (.load allM (Rect.unit (s := S2048x2048) off S128x2048.size inb).toLoadRect hl) kk) Q) := step_deadPiece c (pc c 0) ho

/-! ## The parts -/

/-- The first part finds out which device it runs on. -/
theorem part1 (Q : (Σ' (d0 : Dev nD) (v2 : BitVec 32) (v5 : BitVec 32) (v8 : BitVec 32) (v19 : BitVec 32) (v31 : BitVec 32) (v33 : BitVec 32) (v34 : BitVec 32), BitVec 32) → sProp 𝕄) :
    iprop(∀ r, ⌜r.1 = c⌝ -∗ Q r) ⊢ W0 c (k0_part1 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) Q := by
  rw [k0_part1_eq_skeleton]; unfold k0_part1_skel
  simp only [Prog.lift, Prog.bind_op, Prog.bind_ret, Prog.pure_eq_ret, W0, wp_deviceId]
  iintro HQ
  iapply (w_ret c)
  iapply HQ
  ipureintro; rfl

theorem part2 (v2 : BitVec 32) (v5 : BitVec 32) (v8 : BitVec 32) (v33 : BitVec 32) (v34 : BitVec 32) (c2_i32_18 : BitVec 32) (Q : (Σ' (v36 : BitVec 32) (v39 : BitVec 32) (v43 : BitVec 32) (v44 : BitVec 32) (v45 : BitVec 32), BitVec 32) → sProp 𝕄) :
    iprop(ctx m K ∗ arr0 m c ∗ stageAny (F := F) c ∗ semVal (ldCell c) 0 ∗ ow c (owe 0 c) ∗ slotAny (F := F) c 0)
      ⊢ iprop((∀ r, (arr0 m c ∗ semVal (ldCell c) 0 ∗ ow c (owe 0 c) ∗ sendPay m 0 c ∗ stageAny (F := F) c) -∗ Q r) -∗ W0 c (k0_part2 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v33 v34 c2_i32_18) Q) := by
  rw [k0_part2_eq_skeleton]; unfold k0_part2_skel
  simp only [semSignalWord, semWaitWord, Prog.lift, Prog.bind_op, Prog.bind_ret, Prog.pure_eq_ret]
  iintro ⟨#Hc, HA0, Hstg, Hzld, HB0, Hsa0⟩ HQ
  iapply (step_stageRing m K c _ (.inr ⟨0, rfl⟩) rfl (off1_left c)) $$ [HA0 Hstg Hzld HB0]
  · isplitr; · iexact Hc
    isplitl [HA0]; · iexact HA0
    isplitl [Hstg]; · iexact Hstg
    isplitl [Hzld]; · iexact Hzld
    iexact HB0
  iintro ⟨HA0, HstgR, Hzld, HB0⟩
  iapply (step_ldStage c (ringV m c)) $$ HstgR
  iintro HstgR
  iapply (step_deadSlot c 0 rfl) $$ Hsa0
  iintro %v Hsa0
  iapply (step_stSlot c 0 (C0 m c) rfl) $$ Hsa0
  iintro Hsl0
  ihave Hsp0 := (slot_send m c) $$ Hsl0
  ihave Hstg := (stage_any c _) $$ HstgR
  iapply (w_ret c)
  iapply HQ
  isplitl [HA0]; · iexact HA0
  isplitl [Hzld]; · iexact Hzld
  isplitl [HB0]; · iexact HB0
  isplitl [Hsp0]; · iexact Hsp0
  iexact Hstg

theorem part3 (v2 : BitVec 32) (v5 : BitVec 32) (v8 : BitVec 32) (v31 : BitVec 32) (Q : (Σ' (v68 : BitVec 32) (v79 : BitVec 32) (v80 : BitVec 32) (v81 : BitVec 32) (v92 : BitVec 32) (v93 : Sems sig S_), BitVec 32) → sProp 𝕄) :
    iprop(ctx m K ∗ ow c (owe 0 c) ∗ dutyTok ER (barCell (sigTo 0 c)) 0 0 ∗ barPay (F := F) (sigTo 0 c) 0)
      ⊢ iprop((∀ r, (⌜r.2.2.2.2.2.1 = SemArray.scalar (sig.barrier 0 rfl)⌝ ∗ ow c (owe 1 c)) -∗ Q r) -∗ W0 c (k0_part3 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v31) Q) := by
  rw [k0_part3_eq_skeleton]; unfold k0_part3_skel
  simp only [semSignalWord, semWaitWord, Prog.lift, Prog.bind_op, Prog.bind_ret, Prog.pure_eq_ret]
  iintro ⟨#Hc, HB0, Htok0, Hbp0⟩ HQ
  iapply (step_signal m K 0 c _ (dev1_eq c)) $$ [HB0 Htok0 Hbp0]
  · isplitr; · iexact Hc
    isplitl [HB0]; · iexact HB0
    isplitl [Htok0]; · iexact Htok0
    iexact Hbp0
  iintro HB1
  iapply (w_ret c)
  iapply HQ
  isplitr; · ipureintro; rfl
  iexact HB1

theorem part4 (v2 : BitVec 32) (v5 : BitVec 32) (v8 : BitVec 32) (v19 : BitVec 32) (v44 : BitVec 32) (v45 : BitVec 32) (v67 : BitVec 32) (v68 : BitVec 32) (v79 : BitVec 32) (v80 : BitVec 32) (v81 : BitVec 32) (v92 : BitVec 32) (v101 : BitVec 32) (Q : (PUnit) → sProp 𝕄) :
    iprop(ctx m K ∗ ow c (owe 1 c) ∗ dutyTok ER (barCell (sigTo 1 c)) 0 1 ∗ barPay (F := F) (sigTo 1 c) 1 ∗ dutyTok ER (barCell (sigTo 2 c)) 0 2 ∗ barPay (F := F) (sigTo 2 c) 2 ∗ dutyTok ER (barCell (sigTo 3 c)) 0 3 ∗ barPay (F := F) (sigTo 3 c) 3 ∗ dutyTok ER (barCell (sigTo 4 c)) 0 4 ∗ barPay (F := F) (sigTo 4 c) 4 ∗ dutyTok ER (barCell (sigTo 5 c)) 0 5 ∗ barPay (F := F) (sigTo 5 c) 5 ∗ barKit c)
      ⊢ iprop((∀ r, (ow c (oweS 0 c) ∗ semVal (barCell c) 0 ∗ lands (F := F) c) -∗ Q r) -∗ W0 c (k0_part4 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v19 v44 v45 v67 v68 v79 v80 v81 v92 (SemArray.scalar (sig.barrier 0 rfl)) v101) Q) := by
  rw [k0_part4_eq_skeleton]; unfold k0_part4_skel
  simp only [semSignalWord, semWaitWord, Prog.lift, Prog.bind_op, Prog.bind_ret, Prog.pure_eq_ret]
  iintro ⟨#Hc, HB1, Htok1, Hbp1, Htok2, Hbp2, Htok3, Hbp3, Htok4, Hbp4, Htok5, Hbp5, Hbar⟩ HQ
  iapply (step_signal m K 1 c _ (dev2_eq c)) $$ [HB1 Htok1 Hbp1]
  · isplitr; · iexact Hc
    isplitl [HB1]; · iexact HB1
    isplitl [Htok1]; · iexact Htok1
    iexact Hbp1
  iintro HB2
  iapply (step_signal m K 2 c _ (dev3_eq c)) $$ [HB2 Htok2 Hbp2]
  · isplitr; · iexact Hc
    isplitl [HB2]; · iexact HB2
    isplitl [Htok2]; · iexact Htok2
    iexact Hbp2
  iintro HB3
  iapply (step_signal m K 3 c _ (dev4_eq c)) $$ [HB3 Htok3 Hbp3]
  · isplitr; · iexact Hc
    isplitl [HB3]; · iexact HB3
    isplitl [Htok3]; · iexact Htok3
    iexact Hbp3
  iintro HB4
  iapply (step_signal m K 4 c _ (dev5_eq c)) $$ [HB4 Htok4 Hbp4]
  · isplitr; · iexact Hc
    isplitl [HB4]; · iexact HB4
    isplitl [Htok4]; · iexact Htok4
    iexact Hbp4
  iintro HB5
  iapply (step_signal m K 5 c _ (dev6_eq c)) $$ [HB5 Htok5 Hbp5]
  · isplitr; · iexact Hc
    isplitl [HB5]; · iexact HB5
    isplitl [Htok5]; · iexact Htok5
    iexact Hbp5
  iintro HB6
  iapply (step_bar' m K c) $$ [HB6 Hbar]
  · isplitr; · iexact Hc
    isplitl [HB6]; · iexact HB6
    iexact Hbar
  iintro ⟨HO0, Hzb, Hlands⟩
  iapply (w_ret c)
  iapply HQ
  isplitl [HO0]; · iexact HO0
  isplitl [Hzb]; · iexact Hzb
  iexact Hlands

theorem part5 (v2 : BitVec 32) (v5 : BitVec 32) (v8 : BitVec 32) (v19 : BitVec 32) (v33 : BitVec 32) (Q : (PUnit) → sProp 𝕄) :
    iprop(ctx m K ∗ preKits (F := F) c ∗ lands (F := F) c ∗ sendPay m 0 c ∗ ow c (oweS 0 c) ∗ arr1 m c ∗ stageAny (F := F) c ∗ semVal (ldCell c) 0)
      ⊢ iprop((∀ r, (sendKit (F := F) 1 c ∗ sendKit (F := F) 2 c ∗ sendKit (F := F) 3 c ∗ sendKit (F := F) 4 c ∗ sendKit (F := F) 5 c ∗ sendKit (F := F) 6 c ∗ sendKit (F := F) 7 c ∗ sendKit (F := F) 8 c ∗ sendKit (F := F) 9 c ∗ sendKit (F := F) 10 c ∗ sendKit (F := F) 11 c ∗ sendKit (F := F) 12 c ∗ sendKit (F := F) 13 c ∗ sendKit (F := F) 14 c ∗ sendKit (F := F) 15 c ∗ sentKit 0 c ∗ arr1 m c ∗ stageP c (partV m c) ∗ semVal (ldCell c) 0 ∗ ow c (oweS 1 c)) -∗ Q r) -∗ W0 c (k0_part5 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v19 v33) Q) := by
  rw [k0_part5_eq_skeleton]; unfold k0_part5_skel
  simp only [semSignalWord, semWaitWord, Prog.lift, Prog.bind_op, Prog.bind_ret, Prog.pure_eq_ret]
  iintro ⟨#Hc, Hpre, Hlands, Hsp0, HO0, HA1, Hstg, Hzld⟩ HQ
  ihave H := (kits_intro c) $$ [Hlands Hpre]
  · isplitl [Hlands]; · iexact Hlands
    iexact Hpre
  icases H with ⟨Hkit0, Hkit1, Hkit2, Hkit3, Hkit4, Hkit5, Hkit6, Hkit7, Hkit8, Hkit9, Hkit10, Hkit11, Hkit12, Hkit13, Hkit14, Hkit15⟩
  iapply (step_hop m K c _ (dev7_eq c) rfl rfl) $$ [Hkit0 Hsp0 HO0]
  · isplitr; · iexact Hc
    isplitl [Hkit0]; · iexact Hkit0
    isplitl [Hsp0]; · iexact Hsp0
    iexact HO0
  iintro ⟨Hst0, HO1⟩
  iapply (step_stagePart m K c _ (.inl ⟨1, rfl⟩) rfl (off2_eq c)) $$ [HA1 Hstg Hzld HO1]
  · isplitr; · iexact Hc
    isplitl [HA1]; · iexact HA1
    isplitl [Hstg]; · iexact Hstg
    isplitl [Hzld]; · iexact Hzld
    iexact HO1
  iintro ⟨HA1, HstgP, Hzld, HO1⟩
  iapply (w_ret c)
  iapply HQ
  isplitl [Hkit1]; · iexact Hkit1
  isplitl [Hkit2]; · iexact Hkit2
  isplitl [Hkit3]; · iexact Hkit3
  isplitl [Hkit4]; · iexact Hkit4
  isplitl [Hkit5]; · iexact Hkit5
  isplitl [Hkit6]; · iexact Hkit6
  isplitl [Hkit7]; · iexact Hkit7
  isplitl [Hkit8]; · iexact Hkit8
  isplitl [Hkit9]; · iexact Hkit9
  isplitl [Hkit10]; · iexact Hkit10
  isplitl [Hkit11]; · iexact Hkit11
  isplitl [Hkit12]; · iexact Hkit12
  isplitl [Hkit13]; · iexact Hkit13
  isplitl [Hkit14]; · iexact Hkit14
  isplitl [Hkit15]; · iexact Hkit15
  isplitl [Hst0]; · iexact Hst0
  isplitl [HA1]; · iexact HA1
  isplitl [HstgP]; · iexact HstgP
  isplitl [Hzld]; · iexact Hzld
  iexact HO1

theorem part6 (v2 : BitVec 32) (v5 : BitVec 32) (v8 : BitVec 32) (v19 : BitVec 32) (Q : (BitVec 32) → sProp 𝕄) :
    iprop(ctx m K ∗ sentKit 0 c ∗ ow c (oweS 1 c) ∗ recvKit 0 c ∗ stageP c (partV m c))
      ⊢ iprop((∀ r, (semVal (sendCell 0 c) 0 ∗ ow c (oweS 1 c) ∗ semVal (recvCell 0 c) 0 ∗ slotAny (F := F) c 0 ∗ slotP c 1 (comm1 m c) ∗ stageAny (F := F) c) -∗ Q r) -∗ W0 c (k0_part6 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v2 v5 v8 v19) Q) := by
  rw [k0_part6_eq_skeleton]; unfold k0_part6_skel
  simp only [semSignalWord, semWaitWord, Prog.lift, Prog.bind_op, Prog.bind_ret, Prog.pure_eq_ret]
  iintro ⟨#Hc, Hst0, HO1, Hrk0, HstgP⟩ HQ
  iapply (step_sent0 m K rfl c) $$ [Hst0 HO1]
  · isplitr; · iexact Hc
    isplitl [Hst0]; · iexact Hst0
    iexact HO1
  iintro ⟨HO1, Hzs0, Hsp0⟩
  iapply (step_recv0 m K rfl c) $$ [Hrk0 HO1]
  · isplitr; · iexact Hc
    isplitl [Hrk0]; · iexact Hrk0
    iexact HO1
  iintro ⟨HO1, Hzr0, Hrp0⟩
  ihave Hsa0 := (slot_back m c) $$ Hsp0
  ihave Hsl1c := (slot_landed m c) $$ Hrp0
  iapply (step_ldSlot c 1 (C0 m (left c)) rfl) $$ Hsl1c
  iintro Hsl1c
  iapply (step_ldStage c (partV m c)) $$ HstgP
  iintro HstgP
  ihave Hsa1 := (slot_any c 1 _) $$ Hsl1c
  iapply (step_deadSlot c 1 rfl) $$ Hsa1
  iintro %v Hsa1
  iapply (step_stSlot c 1 (comm1 m c) rfl) $$ Hsa1
  iintro Hsl1
  ihave Hstg := (stage_any c _) $$ HstgP
  iapply (w_ret c)
  iapply HQ
  isplitl [Hzs0]; · iexact Hzs0
  isplitl [HO1]; · iexact HO1
  isplitl [Hzr0]; · iexact Hzr0
  isplitl [Hsa0]; · iexact Hsa0
  isplitl [Hsl1]; · iexact Hsl1
  iexact Hstg

theorem part7 (v33 : BitVec 32) (v189 : BitVec 32) (Q : (Σ' (v199 : BitVec 32) (v225 : FVec F S128x2048 .bf16), BitVec 32) → sProp 𝕄) :
    iprop(ctx m K ∗ arr2 m c ∗ stageAny (F := F) c ∗ semVal (ldCell c) 0 ∗ ow c (oweS 1 c) ∗ slotP c 1 (comm1 m c) ∗ gamP m c)
      ⊢ iprop((∀ r, (⌜r.2.1 = k0_pay3 (comm1 m c) (resV m c) (a3 m c)⌝ ∗ arr2 m c ∗ semVal (ldCell c) 0 ∗ ow c (oweS 1 c) ∗ gamP m c ∗ slotAny (F := F) c 1 ∗ stageAny (F := F) c) -∗ Q r) -∗ W0 c (k0_part7 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v33 v189) Q) := by
  rw [k0_part7_eq_skeleton]; unfold k0_part7_skel
  simp only [semSignalWord, semWaitWord, Prog.lift, Prog.bind_op, Prog.bind_ret, Prog.pure_eq_ret]
  iintro ⟨#Hc, HA2, Hstg, Hzld, HO1, Hsl1, Hgam⟩ HQ
  iapply (step_stageRes m K c _ (.inl ⟨1, rfl⟩) rfl (off1_own c)) $$ [HA2 Hstg Hzld HO1]
  · isplitr; · iexact Hc
    isplitl [HA2]; · iexact HA2
    isplitl [Hstg]; · iexact Hstg
    isplitl [Hzld]; · iexact Hzld
    iexact HO1
  iintro ⟨HA2, HstgS, Hzld, HO1⟩
  iapply (step_ldSlot c 1 (comm1 m c) rfl) $$ Hsl1
  iintro Hsl1
  iapply (step_ldStage c (resV m c)) $$ HstgS
  iintro HstgS
  iapply (step_ldGam m c) $$ Hgam
  iintro Hgam
  ihave Hsa1 := (slot_any c 1 _) $$ Hsl1
  ihave Hstg := (stage_any c _) $$ HstgS
  iapply (w_ret c)
  iapply HQ
  isplitr; · ipureintro; rfl
  isplitl [HA2]; · iexact HA2
  isplitl [Hzld]; · iexact Hzld
  isplitl [HO1]; · iexact HO1
  isplitl [Hgam]; · iexact Hgam
  isplitl [Hsa1]; · iexact Hsa1
  iexact Hstg

theorem part8 (v2 : BitVec 32) (v5 : BitVec 32) (v8 : BitVec 32) (v33 : BitVec 32) (v44 : BitVec 32) (v45 : BitVec 32) (v199 : BitVec 32) (v226 : BitVec 32) (Q : (Σ' (v260 : BitVec 32), BitVec 32) → sProp 𝕄) :
    iprop(ctx m K ∗ (∃ f, allP (F := F) c (pset (pc c 0)) fullShare f) ∗ sendKit (F := F) 1 c ∗ ow c (oweS 1 c))
      ⊢ iprop((∀ r, (pp m c 0 KSh ∗ sendPay m 4 c ∗ sendPay m 2 c ∗ sendPay m 3 c ∗ sentKit 1 c ∗ ow c (oweS 2 c)) -∗ Q r) -∗ W0 c (k0_part8 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v33 v44 v45 v199 (k0_pay3 (comm1 m c) (resV m c) (a3 m c)) v226) Q) := by
  rw [k0_part8_eq_skeleton]; unfold k0_part8_skel
  simp only [semSignalWord, semWaitWord, Prog.lift, Prog.bind_op, Prog.bind_ret, Prog.pure_eq_ret]
  iintro ⟨#Hc, Hany0, Hkit1, HO1⟩ HQ
  iapply (step_deadOwn c (off3_eq c)) $$ Hany0
  iintro %v Hany0
  iapply (step_stOwn m c (off3_eq c) rfl) $$ Hany0
  iintro Hown0
  ihave H := (own_split m c) $$ Hown0
  icases H with ⟨HK0, Hsp4, Hsp1, Hsp2, Hsp3⟩
  iapply (step_send m K 1 (by decide) c _ (dev8_eq c) rfl rfl (off1_own c)) $$ [Hkit1 Hsp1 HO1]
  · isplitr; · iexact Hc
    isplitl [Hkit1]; · iexact Hkit1
    isplitl [Hsp1]; · iexact Hsp1
    iexact HO1
  iintro ⟨Hst1, HO2⟩
  iapply (w_ret c)
  iapply HQ
  isplitl [HK0]; · iexact HK0
  isplitl [Hsp4]; · iexact Hsp4
  isplitl [Hsp2]; · iexact Hsp2
  isplitl [Hsp3]; · iexact Hsp3
  isplitl [Hst1]; · iexact Hst1
  iexact HO2

theorem part9 (v8 : BitVec 32) (v33 : BitVec 32) (v67 : BitVec 32) (v68 : BitVec 32) (v79 : BitVec 32) (v199 : BitVec 32) (v260 : BitVec 32) (c1_i32_184 : BitVec 32) (Q : (Σ' (v295 : BitVec 32), BitVec 32) → sProp 𝕄) :
    iprop(ctx m K ∗ sendKit (F := F) 2 c ∗ sendPay m 2 c ∗ ow c (oweS 2 c) ∗ sendKit (F := F) 3 c ∗ sendPay m 3 c)
      ⊢ iprop((∀ r, (sentKit 2 c ∗ sentKit 3 c ∗ ow c (oweS 4 c)) -∗ Q r) -∗ W0 c (k0_part9 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v8 v33 v67 v68 v79 v199 v260 c1_i32_184) Q) := by
  rw [k0_part9_eq_skeleton]; unfold k0_part9_skel
  simp only [semSignalWord, semWaitWord, Prog.lift, Prog.bind_op, Prog.bind_ret, Prog.pure_eq_ret]
  iintro ⟨#Hc, Hkit2, Hsp2, HO2, Hkit3, Hsp3⟩ HQ
  iapply (step_send m K 2 (by decide) c _ (dev9_eq c) rfl rfl (off1_own c)) $$ [Hkit2 Hsp2 HO2]
  · isplitr; · iexact Hc
    isplitl [Hkit2]; · iexact Hkit2
    isplitl [Hsp2]; · iexact Hsp2
    iexact HO2
  iintro ⟨Hst2, HO3⟩
  iapply (step_send m K 3 (by decide) c _ (dev10_eq c) rfl rfl (off1_own c)) $$ [Hkit3 Hsp3 HO3]
  · isplitr; · iexact Hc
    isplitl [Hkit3]; · iexact Hkit3
    isplitl [Hsp3]; · iexact Hsp3
    iexact HO3
  iintro ⟨Hst3, HO4⟩
  iapply (w_ret c)
  iapply HQ
  isplitl [Hst2]; · iexact Hst2
  isplitl [Hst3]; · iexact Hst3
  iexact HO4

theorem part10 (v2 : BitVec 32) (v5 : BitVec 32) (v19 : BitVec 32) (v33 : BitVec 32) (v295 : BitVec 32) (v296 : BitVec 32) (Q : (BitVec 32) → sProp 𝕄) :
    iprop(ctx m K ∗ sendKit (F := F) 4 c ∗ sendPay m 4 c ∗ ow c (oweS 4 c))
      ⊢ iprop((∀ r, (ow c (oweS 5 c) ∗ semVal (sendCell 4 c) 0 ∗ sendPay m 4 c) -∗ Q r) -∗ W0 c (k0_part10 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v19 v33 v295 v296) Q) := by
  rw [k0_part10_eq_skeleton]; unfold k0_part10_skel
  simp only [semSignalWord, semWaitWord, Prog.lift, Prog.bind_op, Prog.bind_ret, Prog.pure_eq_ret]
  iintro ⟨#Hc, Hkit4, Hsp4, HO4⟩ HQ
  iapply (step_send m K 4 (by decide) c _ (dev11_eq c) rfl rfl (off4_0 c)) $$ [Hkit4 Hsp4 HO4]
  · isplitr; · iexact Hc
    isplitl [Hkit4]; · iexact Hkit4
    isplitl [Hsp4]; · iexact Hsp4
    iexact HO4
  iintro ⟨Hst4, HO5⟩
  iapply (step_sentP m K 4 5 rfl c) $$ [Hst4 HO5]
  · isplitr; · iexact Hc
    isplitl [Hst4]; · iexact Hst4
    iexact HO5
  iintro ⟨HO5, Hzs4, Hsp4⟩
  iapply (w_ret c)
  iapply HQ
  isplitl [HO5]; · iexact HO5
  isplitl [Hzs4]; · iexact Hzs4
  iexact Hsp4

theorem part11 (v2 : BitVec 32) (v5 : BitVec 32) (v8 : BitVec 32) (v19 : BitVec 32) (v33 : BitVec 32) (v44 : BitVec 32) (v307 : BitVec 32) (Q : (PUnit) → sProp 𝕄) :
    iprop(ctx m K ∗ recvKit 4 c ∗ ow c (oweS 5 c) ∗ sendKit (F := F) 5 c)
      ⊢ iprop((∀ r, (semVal (recvCell 4 c) 0 ∗ pp m c 4 KSh ∗ sendPay m 7 c ∗ sendPay m 6 c ∗ pp m c 4 LSh.right.right ∗ sentKit 5 c ∗ ow c (oweS 6 c)) -∗ Q r) -∗ W0 c (k0_part11 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v19 v33 v44 v307) Q) := by
  rw [k0_part11_eq_skeleton]; unfold k0_part11_skel
  simp only [semSignalWord, semWaitWord, Prog.lift, Prog.bind_op, Prog.bind_ret, Prog.pure_eq_ret]
  iintro ⟨#Hc, Hrk4, HO5, Hkit5⟩ HQ
  iapply (step_recvP m K 4 5 (by decide) rfl c) $$ [Hrk4 HO5]
  · isplitr; · iexact Hc
    isplitl [Hrk4]; · iexact Hrk4
    iexact HO5
  iintro ⟨HO5, Hzr4, Hrp4⟩
  ihave H := ((split_4 m c).1) $$ Hrp4
  icases H with ⟨HK4, Hsp7, Hsp5, Hsp6, HRR4⟩
  iapply (step_send m K 5 (by decide) c _ (dev12_eq c) rfl rfl (off5_0 c)) $$ [Hkit5 Hsp5 HO5]
  · isplitr; · iexact Hc
    isplitl [Hkit5]; · iexact Hkit5
    isplitl [Hsp5]; · iexact Hsp5
    iexact HO5
  iintro ⟨Hst5, HO6⟩
  iapply (w_ret c)
  iapply HQ
  isplitl [Hzr4]; · iexact Hzr4
  isplitl [HK4]; · iexact HK4
  isplitl [Hsp7]; · iexact Hsp7
  isplitl [Hsp6]; · iexact Hsp6
  isplitl [HRR4]; · iexact HRR4
  isplitl [Hst5]; · iexact Hst5
  iexact HO6

theorem part12 (v2 : BitVec 32) (v8 : BitVec 32) (v45 : BitVec 32) (Q : (Σ' (v388 : BitVec 32) (v392 : BitVec 32) (v393 : BitVec 32), BitVec 1) → sProp 𝕄) :
    iprop(ctx m K ∗ sendKit (F := F) 6 c ∗ sendPay m 6 c ∗ ow c (oweS 6 c))
      ⊢ iprop((∀ r, (sentKit 6 c ∗ ow c (oweS 7 c)) -∗ Q r) -∗ W0 c (k0_part12 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v8 v45) Q) := by
  rw [k0_part12_eq_skeleton]; unfold k0_part12_skel
  simp only [semSignalWord, semWaitWord, Prog.lift, Prog.bind_op, Prog.bind_ret, Prog.pure_eq_ret]
  iintro ⟨#Hc, Hkit6, Hsp6, HO6⟩ HQ
  iapply (step_send m K 6 (by decide) c _ (dev13_eq c) rfl rfl (off5_0 c)) $$ [Hkit6 Hsp6 HO6]
  · isplitr; · iexact Hc
    isplitl [Hkit6]; · iexact Hkit6
    isplitl [Hsp6]; · iexact Hsp6
    iexact HO6
  iintro ⟨Hst6, HO7⟩
  iapply (w_ret c)
  iapply HQ
  isplitl [Hst6]; · iexact Hst6
  iexact HO7

theorem part13 (v2 : BitVec 32) (v5 : BitVec 32) (v19 : BitVec 32) (v33 : BitVec 32) (v388 : BitVec 32) (v392 : BitVec 32) (v393 : BitVec 32) (v398 : BitVec 1) (Q : (BitVec 32) → sProp 𝕄) :
    iprop(ctx m K ∗ sendKit (F := F) 7 c ∗ sendPay m 7 c ∗ ow c (oweS 7 c))
      ⊢ iprop((∀ r, (ow c (oweS 8 c) ∗ semVal (sendCell 7 c) 0 ∗ sendPay m 7 c) -∗ Q r) -∗ W0 c (k0_part13 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v19 v33 v388 v392 v393 v398) Q) := by
  rw [k0_part13_eq_skeleton]; unfold k0_part13_skel
  simp only [semSignalWord, semWaitWord, Prog.lift, Prog.bind_op, Prog.bind_ret, Prog.pure_eq_ret]
  iintro ⟨#Hc, Hkit7, Hsp7, HO7⟩ HQ
  iapply (step_send m K 7 (by decide) c _ (dev14_eq c) rfl rfl (off4_1 c)) $$ [Hkit7 Hsp7 HO7]
  · isplitr; · iexact Hc
    isplitl [Hkit7]; · iexact Hkit7
    isplitl [Hsp7]; · iexact Hsp7
    iexact HO7
  iintro ⟨Hst7, HO8⟩
  iapply (step_sentP m K 7 8 rfl c) $$ [Hst7 HO8]
  · isplitr; · iexact Hc
    isplitl [Hst7]; · iexact Hst7
    iexact HO8
  iintro ⟨HO8, Hzs7, Hsp7⟩
  iapply (w_ret c)
  iapply HQ
  isplitl [HO8]; · iexact HO8
  isplitl [Hzs7]; · iexact Hzs7
  iexact Hsp7

theorem part14 (v2 : BitVec 32) (v5 : BitVec 32) (v8 : BitVec 32) (v33 : BitVec 32) (v44 : BitVec 32) (v45 : BitVec 32) (v400 : BitVec 32) (Q : (PUnit) → sProp 𝕄) :
    iprop(ctx m K ∗ recvKit 7 c ∗ ow c (oweS 8 c) ∗ sendKit (F := F) 8 c)
      ⊢ iprop((∀ r, (semVal (recvCell 7 c) 0 ∗ pp m c 7 KSh ∗ sendPay m 10 c ∗ sendPay m 9 c ∗ pp m c 7 LSh.right.right ∗ sentKit 8 c ∗ ow c (oweS 9 c)) -∗ Q r) -∗ W0 c (k0_part14 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v33 v44 v45 v400) Q) := by
  rw [k0_part14_eq_skeleton]; unfold k0_part14_skel
  simp only [semSignalWord, semWaitWord, Prog.lift, Prog.bind_op, Prog.bind_ret, Prog.pure_eq_ret]
  iintro ⟨#Hc, Hrk7, HO8, Hkit8⟩ HQ
  iapply (step_recvP m K 7 8 (by decide) rfl c) $$ [Hrk7 HO8]
  · isplitr; · iexact Hc
    isplitl [Hrk7]; · iexact Hrk7
    iexact HO8
  iintro ⟨HO8, Hzr7, Hrp7⟩
  ihave H := ((split_7 m c).1) $$ Hrp7
  icases H with ⟨HK7, Hsp10, Hsp8, Hsp9, HRR7⟩
  iapply (step_send m K 8 (by decide) c _ (dev15_eq c) rfl rfl (off5_1 c)) $$ [Hkit8 Hsp8 HO8]
  · isplitr; · iexact Hc
    isplitl [Hkit8]; · iexact Hkit8
    isplitl [Hsp8]; · iexact Hsp8
    iexact HO8
  iintro ⟨Hst8, HO9⟩
  iapply (w_ret c)
  iapply HQ
  isplitl [Hzr7]; · iexact Hzr7
  isplitl [HK7]; · iexact HK7
  isplitl [Hsp10]; · iexact Hsp10
  isplitl [Hsp9]; · iexact Hsp9
  isplitl [HRR7]; · iexact HRR7
  isplitl [Hst8]; · iexact Hst8
  iexact HO9

theorem part15 (v2 : BitVec 32) (v8 : BitVec 32) (v33 : BitVec 32) (Q : (Σ' (v493 : BitVec 32), BitVec 32) → sProp 𝕄) :
    iprop(ctx m K ∗ sendKit (F := F) 9 c ∗ sendPay m 9 c ∗ ow c (oweS 9 c))
      ⊢ iprop((∀ r, (sentKit 9 c ∗ ow c (oweS 10 c)) -∗ Q r) -∗ W0 c (k0_part15 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v8 v33) Q) := by
  rw [k0_part15_eq_skeleton]; unfold k0_part15_skel
  simp only [semSignalWord, semWaitWord, Prog.lift, Prog.bind_op, Prog.bind_ret, Prog.pure_eq_ret]
  iintro ⟨#Hc, Hkit9, Hsp9, HO9⟩ HQ
  iapply (step_send m K 9 (by decide) c _ (dev16_eq c) rfl rfl (off5_1 c)) $$ [Hkit9 Hsp9 HO9]
  · isplitr; · iexact Hc
    isplitl [Hkit9]; · iexact Hkit9
    isplitl [Hsp9]; · iexact Hsp9
    iexact HO9
  iintro ⟨Hst9, HO10⟩
  iapply (w_ret c)
  iapply HQ
  isplitl [Hst9]; · iexact Hst9
  iexact HO10

theorem part16 (v2 : BitVec 32) (v5 : BitVec 32) (v19 : BitVec 32) (v33 : BitVec 32) (v44 : BitVec 32) (v493 : BitVec 32) (v500 : BitVec 32) (Q : (BitVec 32) → sProp 𝕄) :
    iprop(ctx m K ∗ sendKit (F := F) 10 c ∗ sendPay m 10 c ∗ ow c (oweS 10 c) ∗ recvKit 10 c)
      ⊢ iprop((∀ r, (semVal (sendCell 10 c) 0 ∗ sendPay m 10 c ∗ ow c (oweS 11 c) ∗ semVal (recvCell 10 c) 0 ∗ pp m c 10 KSh ∗ pp m c 10 LSh.left.left ∗ sendPay m 11 c ∗ sendPay m 12 c ∗ pp m c 10 LSh.right.right) -∗ Q r) -∗ W0 c (k0_part16 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v19 v33 v44 v493 v500) Q) := by
  rw [k0_part16_eq_skeleton]; unfold k0_part16_skel
  simp only [semSignalWord, semWaitWord, Prog.lift, Prog.bind_op, Prog.bind_ret, Prog.pure_eq_ret]
  iintro ⟨#Hc, Hkit10, Hsp10, HO10, Hrk10⟩ HQ
  iapply (step_send m K 10 (by decide) c _ (dev17_eq c) rfl rfl (off4_2 c)) $$ [Hkit10 Hsp10 HO10]
  · isplitr; · iexact Hc
    isplitl [Hkit10]; · iexact Hkit10
    isplitl [Hsp10]; · iexact Hsp10
    iexact HO10
  iintro ⟨Hst10, HO11⟩
  iapply (step_sentP m K 10 11 rfl c) $$ [Hst10 HO11]
  · isplitr; · iexact Hc
    isplitl [Hst10]; · iexact Hst10
    iexact HO11
  iintro ⟨HO11, Hzs10, Hsp10⟩
  iapply (step_recvP m K 10 11 (by decide) rfl c) $$ [Hrk10 HO11]
  · isplitr; · iexact Hc
    isplitl [Hrk10]; · iexact Hrk10
    iexact HO11
  iintro ⟨HO11, Hzr10, Hrp10⟩
  ihave H := ((split_10 m c).1) $$ Hrp10
  icases H with ⟨HK10, HLL10, Hsp11, Hsp12, HRR10⟩
  iapply (w_ret c)
  iapply HQ
  isplitl [Hzs10]; · iexact Hzs10
  isplitl [Hsp10]; · iexact Hsp10
  isplitl [HO11]; · iexact HO11
  isplitl [Hzr10]; · iexact Hzr10
  isplitl [HK10]; · iexact HK10
  isplitl [HLL10]; · iexact HLL10
  isplitl [Hsp11]; · iexact Hsp11
  isplitl [Hsp12]; · iexact Hsp12
  iexact HRR10

end Cert.KernelIdeal.Run

end
-- ==== Proof.Parts2.lean ====
/-
# The body, part by part

The second half: each part of the body from what it takes to what it leaves.
-/
module

public import proofs.«01_k».proof.Proof.Parts1

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig Unit (Elt F) ℕ UU ℕ

variable (m : (ℓ : Loc nD τ sig) → Buf (Elt F) ℓ) (K : Dev nD × KC → ℕ) (c : Dev nD)

theorem part17 (v2 : BitVec 32) (v5 : BitVec 32) (v8 : BitVec 32) (v33 : BitVec 32) (v45 : BitVec 32) (v493 : BitVec 32) (v532 : BitVec 32) (Q : (FVec F S1x512x2048 .f32) → sProp 𝕄) :
    iprop(ctx m K ∗ sendKit (F := F) 11 c ∗ sendPay m 11 c ∗ ow c (oweS 11 c) ∗ sendKit (F := F) 12 c ∗ sendPay m 12 c ∗ pp m c 0 KSh ∗ pp m c 4 KSh ∗ pp m c 7 KSh ∗ pp m c 10 KSh ∗ stripAny (F := F) c 0)
      ⊢ iprop((∀ r, (⌜r = strip m (qr c)⌝ ∗ sentKit 11 c ∗ sentKit 12 c ∗ ow c (oweS 13 c) ∗ pp m c 0 KSh ∗ pp m c 4 KSh ∗ pp m c 7 KSh ∗ pp m c 10 KSh ∗ stripAny (F := F) c 0) -∗ Q r) -∗ W0 c (k0_part17 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v33 v45 v493 v532) Q) := by
  rw [k0_part17_eq_skeleton]; unfold k0_part17_skel
  simp only [semSignalWord, semWaitWord, Prog.lift, Prog.bind_op, Prog.bind_ret, Prog.pure_eq_ret]
  iintro ⟨#Hc, Hkit11, Hsp11, HO11, Hkit12, Hsp12, HK0, HK4, HK7, HK10, Hta0⟩ HQ
  iapply (step_send m K 11 (by decide) c _ (dev18_eq c) rfl rfl (off5_2 c)) $$ [Hkit11 Hsp11 HO11]
  · isplitr; · iexact Hc
    isplitl [Hkit11]; · iexact Hkit11
    isplitl [Hsp11]; · iexact Hsp11
    iexact HO11
  iintro ⟨Hst11, HO12⟩
  iapply (step_send m K 12 (by decide) c _ (dev19_eq c) rfl rfl (off5_2 c)) $$ [Hkit12 Hsp12 HO12]
  · isplitr; · iexact Hc
    isplitl [Hkit12]; · iexact Hkit12
    isplitl [Hsp12]; · iexact Hsp12
    iexact HO12
  iintro ⟨Hst12, HO13⟩
  ihave Hqo := (Entails.of_eq (quarter_own m c).symm) $$ [HK0 HK4 HK7 HK10]
  · isplitl [HK0]; · iexact HK0
    isplitl [HK4]; · iexact HK4
    isplitl [HK7]; · iexact HK7
    iexact HK10
  iapply (step_ldQuart m c (qr c) (off6_eq c)) $$ Hqo
  iintro Hqo
  ihave H := (Entails.of_eq (quarter_own m c)) $$ Hqo
  icases H with ⟨HK0, HK4, HK7, HK10⟩
  iapply (step_deadStrip c 0 rfl) $$ Hta0
  iintro %v Hta0
  iapply (w_ret c)
  iapply HQ
  isplitr; · ipureintro; rfl
  isplitl [Hst11]; · iexact Hst11
  isplitl [Hst12]; · iexact Hst12
  isplitl [HO13]; · iexact HO13
  isplitl [HK0]; · iexact HK0
  isplitl [HK4]; · iexact HK4
  isplitl [HK7]; · iexact HK7
  isplitl [HK10]; · iexact HK10
  iexact Hta0

theorem part18 (v2 : BitVec 32) (v5 : BitVec 32) (v8 : BitVec 32) (v33 : BitVec 32) (v39 : BitVec 32) (Q : (Σ' (v595 : BitVec 32) (v596 : BitVec 32) (v597 : BitVec 1), BitVec 1) → sProp 𝕄) :
    iprop(ctx m K ∗ stripAny (F := F) c 0 ∗ outAny (F := F) c (qr c) ∗ semVal (stsCell c 0) 0 ∗ recvKit 2 c ∗ ow c (oweS 13 c))
      ⊢ iprop((∀ r, (outFlight m c 0 (qr c) ∗ ow c (oweS 13 c) ∗ semVal (recvCell 2 c) 0 ∗ recvPay m 2 c) -∗ Q r) -∗ W0 c (k0_part18 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v33 v39 (strip m (qr c))) Q) := by
  rw [k0_part18_eq_skeleton]; unfold k0_part18_skel
  simp only [semSignalWord, semWaitWord, Prog.lift, Prog.bind_op, Prog.bind_ret, Prog.pure_eq_ret]
  iintro ⟨#Hc, Hta0, Hoao, Hzt0, Hrk2, HO13⟩ HQ
  iapply (step_stStrip m c 0 (qr c) rfl rfl) $$ Hta0
  iintro Htp0o
  iapply (step_out m c 0 (qr c) (off7_eq c) rfl) $$ [Htp0o Hoao Hzt0]
  · isplitl [Htp0o]; · iexact Htp0o
    isplitl [Hoao]; · iexact Hoao
    iexact Hzt0
  iintro Hof0o
  iapply (step_recvP m K 2 13 (by decide) rfl c) $$ [Hrk2 HO13]
  · isplitr; · iexact Hc
    isplitl [Hrk2]; · iexact Hrk2
    iexact HO13
  iintro ⟨HO13, Hzr2, Hrp2⟩
  iapply (w_ret c)
  iapply HQ
  isplitl [Hof0o]; · iexact Hof0o
  isplitl [HO13]; · iexact HO13
  isplitl [Hzr2]; · iexact Hzr2
  iexact Hrp2

theorem part19 (v2 : BitVec 32) (v5 : BitVec 32) (v8 : BitVec 32) (v39 : BitVec 32) (v44 : BitVec 32) (v595 : BitVec 32) (v596 : BitVec 32) (v597 : BitVec 1) (v598 : BitVec 1) (Q : (PUnit) → sProp 𝕄) :
    iprop(ctx m K ∗ recvPay m 2 c ∗ sendKit (F := F) 13 c ∗ ow c (oweS 13 c))
      ⊢ iprop((∀ r, (pp m c 2 KSh ∗ sentKit 13 c ∗ ow c (oweS 14 c)) -∗ Q r) -∗ W0 c (k0_part19 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v39 v44 v595 v596 v597 v598) Q) := by
  rw [k0_part19_eq_skeleton]; unfold k0_part19_skel
  simp only [semSignalWord, semWaitWord, Prog.lift, Prog.bind_op, Prog.bind_ret, Prog.pure_eq_ret]
  iintro ⟨#Hc, Hrp2, Hkit13, HO13⟩ HQ
  ihave H := ((split_2 m c).1) $$ Hrp2
  icases H with ⟨Hsp13, HK2⟩
  iapply (step_send m K 13 (by decide) c _ (dev20_eq c) rfl rfl (off9_0 c)) $$ [Hkit13 Hsp13 HO13]
  · isplitr; · iexact Hc
    isplitl [Hkit13]; · iexact Hkit13
    isplitl [Hsp13]; · iexact Hsp13
    iexact HO13
  iintro ⟨Hst13, HO14⟩
  iapply (w_ret c)
  iapply HQ
  isplitl [HK2]; · iexact HK2
  isplitl [Hst13]; · iexact Hst13
  iexact HO14

theorem part20 (v5 : BitVec 32) (v8 : BitVec 32) (v39 : BitVec 32) (v44 : BitVec 32) (Q : (PUnit) → sProp 𝕄) :
    iprop(ctx m K ∗ recvKit 6 c ∗ ow c (oweS 14 c) ∗ sendKit (F := F) 14 c)
      ⊢ iprop((∀ r, (semVal (recvCell 6 c) 0 ∗ pp m c 6 KSh ∗ sentKit 14 c ∗ ow c (oweS 15 c)) -∗ Q r) -∗ W0 c (k0_part20 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v5 v8 v39 v44) Q) := by
  rw [k0_part20_eq_skeleton]; unfold k0_part20_skel
  simp only [semSignalWord, semWaitWord, Prog.lift, Prog.bind_op, Prog.bind_ret, Prog.pure_eq_ret]
  iintro ⟨#Hc, Hrk6, HO14, Hkit14⟩ HQ
  iapply (step_recvP m K 6 14 (by decide) rfl c) $$ [Hrk6 HO14]
  · isplitr; · iexact Hc
    isplitl [Hrk6]; · iexact Hrk6
    iexact HO14
  iintro ⟨HO14, Hzr6, Hrp6⟩
  ihave H := ((split_6 m c).1) $$ Hrp6
  icases H with ⟨Hsp14, HK6⟩
  iapply (step_send m K 14 (by decide) c _ (dev21_eq c) rfl rfl (off9_1 c)) $$ [Hkit14 Hsp14 HO14]
  · isplitr; · iexact Hc
    isplitl [Hkit14]; · iexact Hkit14
    isplitl [Hsp14]; · iexact Hsp14
    iexact HO14
  iintro ⟨Hst14, HO15⟩
  iapply (w_ret c)
  iapply HQ
  isplitl [Hzr6]; · iexact Hzr6
  isplitl [HK6]; · iexact HK6
  isplitl [Hst14]; · iexact Hst14
  iexact HO15

theorem part21 (v2 : BitVec 32) (v5 : BitVec 32) (v8 : BitVec 32) (v36 : BitVec 32) (Q : (BitVec 32) → sProp 𝕄) :
    iprop(ctx m K ∗ recvKit 1 c ∗ ow c (oweS 15 c) ∗ recvKit 5 c)
      ⊢ iprop((∀ r, (semVal (recvCell 1 c) 0 ∗ recvPay m 1 c ∗ ow c (oweS 15 c) ∗ semVal (recvCell 5 c) 0 ∗ recvPay m 5 c) -∗ Q r) -∗ W0 c (k0_part21 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v36) Q) := by
  rw [k0_part21_eq_skeleton]; unfold k0_part21_skel
  simp only [semSignalWord, semWaitWord, Prog.lift, Prog.bind_op, Prog.bind_ret, Prog.pure_eq_ret]
  iintro ⟨#Hc, Hrk1, HO15, Hrk5⟩ HQ
  iapply (step_recvP m K 1 15 (by decide) rfl c) $$ [Hrk1 HO15]
  · isplitr; · iexact Hc
    isplitl [Hrk1]; · iexact Hrk1
    iexact HO15
  iintro ⟨HO15, Hzr1, Hrp1⟩
  iapply (step_recvP m K 5 15 (by decide) rfl c) $$ [Hrk5 HO15]
  · isplitr; · iexact Hc
    isplitl [Hrk5]; · iexact Hrk5
    iexact HO15
  iintro ⟨HO15, Hzr5, Hrp5⟩
  iapply (w_ret c)
  iapply HQ
  isplitl [Hzr1]; · iexact Hzr1
  isplitl [Hrp1]; · iexact Hrp1
  isplitl [HO15]; · iexact HO15
  isplitl [Hzr5]; · iexact Hzr5
  iexact Hrp5

theorem part22 (v2 : BitVec 32) (v5 : BitVec 32) (v8 : BitVec 32) (v36 : BitVec 32) (v699 : BitVec 32) (Q : (BitVec 32) → sProp 𝕄) :
    iprop(ctx m K ∗ recvKit 8 c ∗ ow c (oweS 15 c))
      ⊢ iprop((∀ r, (ow c (oweS 15 c) ∗ semVal (recvCell 8 c) 0 ∗ recvPay m 8 c) -∗ Q r) -∗ W0 c (k0_part22 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v36 v699) Q) := by
  rw [k0_part22_eq_skeleton]; unfold k0_part22_skel
  simp only [semSignalWord, semWaitWord, Prog.lift, Prog.bind_op, Prog.bind_ret, Prog.pure_eq_ret]
  iintro ⟨#Hc, Hrk8, HO15⟩ HQ
  iapply (step_recvP m K 8 15 (by decide) rfl c) $$ [Hrk8 HO15]
  · isplitr; · iexact Hc
    isplitl [Hrk8]; · iexact Hrk8
    iexact HO15
  iintro ⟨HO15, Hzr8, Hrp8⟩
  iapply (w_ret c)
  iapply HQ
  isplitl [HO15]; · iexact HO15
  isplitl [Hzr8]; · iexact Hzr8
  iexact Hrp8

theorem part23 (v2 : BitVec 32) (v5 : BitVec 32) (v8 : BitVec 32) (v36 : BitVec 32) (v45 : BitVec 32) (v732 : BitVec 32) (Q : (PUnit) → sProp 𝕄) :
    iprop(ctx m K ∗ recvPay m 8 c ∗ sendKit (F := F) 15 c ∗ ow c (oweS 15 c) ∗ recvKit 11 c ∗ recvPay m 1 c ∗ recvPay m 5 c ∗ stripAny (F := F) c 1)
      ⊢ iprop((∀ r, (sentKit 15 c ∗ ow c (oweS 16 c) ∗ semVal (recvCell 11 c) 0 ∗ pp m c 1 LSh ∗ pp m c 5 LSh ∗ pp m c 11 LSh ∗ pp m c 1 KSh ∗ pp m c 5 KSh ∗ pp m c 8 KSh ∗ pp m c 11 KSh ∗ stripP m c 1 (qr (xn c))) -∗ Q r) -∗ W0 c (k0_part23 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v36 v45 v732) Q) := by
  rw [k0_part23_eq_skeleton]; unfold k0_part23_skel
  simp only [semSignalWord, semWaitWord, Prog.lift, Prog.bind_op, Prog.bind_ret, Prog.pure_eq_ret]
  iintro ⟨#Hc, Hrp8, Hkit15, HO15, Hrk11, Hrp1, Hrp5, Hta1⟩ HQ
  ihave H := ((split_8 m c).1) $$ Hrp8
  icases H with ⟨Hsp15, HK8⟩
  iapply (step_send m K 15 (by decide) c _ (dev22_eq c) rfl rfl (off11_eq c)) $$ [Hkit15 Hsp15 HO15]
  · isplitr; · iexact Hc
    isplitl [Hkit15]; · iexact Hkit15
    isplitl [Hsp15]; · iexact Hsp15
    iexact HO15
  iintro ⟨Hst15, HO16⟩
  iapply (step_recvP m K 11 16 (by decide) rfl c) $$ [Hrk11 HO16]
  · isplitr; · iexact Hc
    isplitl [Hrk11]; · iexact Hrk11
    iexact HO16
  iintro ⟨HO16, Hzr11, Hrp11⟩
  ihave H := ((split_rest m c 1 (by decide)).1) $$ Hrp1
  icases H with ⟨HL1, HK1⟩
  ihave H := ((split_rest m c 5 (by decide)).1) $$ Hrp5
  icases H with ⟨HL5, HK5⟩
  ihave H := ((split_rest m c 11 (by decide)).1) $$ Hrp11
  icases H with ⟨HL11, HK11⟩
  ihave Hqx := (Entails.of_eq (quarter_x m c).symm) $$ [HK1 HK5 HK8 HK11]
  · isplitl [HK1]; · iexact HK1
    isplitl [HK5]; · iexact HK5
    isplitl [HK8]; · iexact HK8
    iexact HK11
  iapply (step_ldQuart m c (qr (xn c)) (off12_eq c)) $$ Hqx
  iintro Hqx
  ihave H := (Entails.of_eq (quarter_x m c)) $$ Hqx
  icases H with ⟨HK1, HK5, HK8, HK11⟩
  iapply (step_deadStrip c 1 rfl) $$ Hta1
  iintro %v Hta1
  iapply (step_stStrip m c 1 (qr (xn c)) rfl rfl) $$ Hta1
  iintro Htp1x
  iapply (w_ret c)
  iapply HQ
  isplitl [Hst15]; · iexact Hst15
  isplitl [HO16]; · iexact HO16
  isplitl [Hzr11]; · iexact Hzr11
  isplitl [HL1]; · iexact HL1
  isplitl [HL5]; · iexact HL5
  isplitl [HL11]; · iexact HL11
  isplitl [HK1]; · iexact HK1
  isplitl [HK5]; · iexact HK5
  isplitl [HK8]; · iexact HK8
  isplitl [HK11]; · iexact HK11
  iexact Htp1x

theorem part24 (v2 : BitVec 32) (v5 : BitVec 32) (v8 : BitVec 32) (v39 : BitVec 32) (Q : (PUnit) → sProp 𝕄) :
    iprop(ctx m K ∗ stripP m c 1 (qr (xn c)) ∗ outAny (F := F) c (qr (xn c)) ∗ semVal (stsCell c 1) 0 ∗ recvKit 9 c ∗ ow c (oweS 16 c))
      ⊢ iprop((∀ r, (outFlight m c 1 (qr (xn c)) ∗ ow c (oweS 16 c) ∗ semVal (recvCell 9 c) 0 ∗ recvPay m 9 c) -∗ Q r) -∗ W0 c (k0_part24 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v39) Q) := by
  rw [k0_part24_eq_skeleton]; unfold k0_part24_skel
  simp only [semSignalWord, semWaitWord, Prog.lift, Prog.bind_op, Prog.bind_ret, Prog.pure_eq_ret]
  iintro ⟨#Hc, Htp1x, Hoax, Hzt1, Hrk9, HO16⟩ HQ
  iapply (step_out m c 1 (qr (xn c)) (off13_eq c) rfl) $$ [Htp1x Hoax Hzt1]
  · isplitl [Htp1x]; · iexact Htp1x
    isplitl [Hoax]; · iexact Hoax
    iexact Hzt1
  iintro Hof1x
  iapply (step_recvP m K 9 16 (by decide) rfl c) $$ [Hrk9 HO16]
  · isplitr; · iexact Hc
    isplitl [Hrk9]; · iexact Hrk9
    iexact HO16
  iintro ⟨HO16, Hzr9, Hrp9⟩
  iapply (w_ret c)
  iapply HQ
  isplitl [Hof1x]; · iexact Hof1x
  isplitl [HO16]; · iexact HO16
  isplitl [Hzr9]; · iexact Hzr9
  iexact Hrp9

theorem part25 (v2 : BitVec 32) (v5 : BitVec 32) (v8 : BitVec 32) (v39 : BitVec 32) (v43 : BitVec 32) (Q : (Σ' (v824 : BitVec 32), BitVec 32) → sProp 𝕄) :
    iprop(ctx m K ∗ recvKit 12 c ∗ ow c (oweS 16 c) ∗ outFlight m c 0 (qr c) ∗ recvPay m 9 c ∗ pp m c 2 KSh ∗ pp m c 6 KSh ∗ outAny (F := F) c (qr (yn c)))
      ⊢ iprop((∀ r, (semVal (recvCell 12 c) 0 ∗ outDone m c (qr c) ∗ ow c (oweS 16 c) ∗ pp m c 9 LSh ∗ pp m c 12 LSh ∗ pp m c 2 KSh ∗ pp m c 6 KSh ∗ pp m c 9 KSh ∗ pp m c 12 KSh ∗ outFlight m c 0 (qr (yn c))) -∗ Q r) -∗ W0 c (k0_part25 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v39 v43) Q) := by
  rw [k0_part25_eq_skeleton]; unfold k0_part25_skel
  simp only [semSignalWord, semWaitWord, Prog.lift, Prog.bind_op, Prog.bind_ret, Prog.pure_eq_ret]
  iintro ⟨#Hc, Hrk12, HO16, Hof0o, Hrp9, HK2, HK6, Hoay⟩ HQ
  iapply (step_recvP m K 12 16 (by decide) rfl c) $$ [Hrk12 HO16]
  · isplitr; · iexact Hc
    isplitl [Hrk12]; · iexact Hrk12
    iexact HO16
  iintro ⟨HO16, Hzr12, Hrp12⟩
  iapply (step_outDone m K c 0 (qr c) 16 rfl) $$ [Hof0o HO16]
  · isplitr; · iexact Hc
    isplitl [Hof0o]; · iexact Hof0o
    iexact HO16
  iintro ⟨Hodo, Hta0, Hzt0, HO16⟩
  ihave H := ((split_rest m c 9 (by decide)).1) $$ Hrp9
  icases H with ⟨HL9, HK9⟩
  ihave H := ((split_rest m c 12 (by decide)).1) $$ Hrp12
  icases H with ⟨HL12, HK12⟩
  ihave Hqy := (Entails.of_eq (quarter_y m c).symm) $$ [HK2 HK6 HK9 HK12]
  · isplitl [HK2]; · iexact HK2
    isplitl [HK6]; · iexact HK6
    isplitl [HK9]; · iexact HK9
    iexact HK12
  iapply (step_ldQuart m c (qr (yn c)) (off14_eq c)) $$ Hqy
  iintro Hqy
  ihave H := (Entails.of_eq (quarter_y m c)) $$ Hqy
  icases H with ⟨HK2, HK6, HK9, HK12⟩
  iapply (step_deadStrip c 0 rfl) $$ Hta0
  iintro %v Hta0
  iapply (step_stStrip m c 0 (qr (yn c)) rfl rfl) $$ Hta0
  iintro Htp0y
  iapply (step_out m c 0 (qr (yn c)) (off15_eq c) rfl) $$ [Htp0y Hoay Hzt0]
  · isplitl [Htp0y]; · iexact Htp0y
    isplitl [Hoay]; · iexact Hoay
    iexact Hzt0
  iintro Hof0y
  iapply (w_ret c)
  iapply HQ
  isplitl [Hzr12]; · iexact Hzr12
  isplitl [Hodo]; · iexact Hodo
  isplitl [HO16]; · iexact HO16
  isplitl [HL9]; · iexact HL9
  isplitl [HL12]; · iexact HL12
  isplitl [HK2]; · iexact HK2
  isplitl [HK6]; · iexact HK6
  isplitl [HK9]; · iexact HK9
  isplitl [HK12]; · iexact HK12
  iexact Hof0y

theorem part26 (v2 : BitVec 32) (v5 : BitVec 32) (v8 : BitVec 32) (v43 : BitVec 32) (v824 : BitVec 32) (v825 : BitVec 32) (Q : (PUnit) → sProp 𝕄) :
    iprop(ctx m K ∗ recvKit 13 c ∗ ow c (oweS 16 c) ∗ recvKit 14 c)
      ⊢ iprop((∀ r, (semVal (recvCell 13 c) 0 ∗ recvPay m 13 c ∗ ow c (oweS 16 c) ∗ semVal (recvCell 14 c) 0 ∗ recvPay m 14 c) -∗ Q r) -∗ W0 c (k0_part26 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v43 v824 v825) Q) := by
  rw [k0_part26_eq_skeleton]; unfold k0_part26_skel
  simp only [semSignalWord, semWaitWord, Prog.lift, Prog.bind_op, Prog.bind_ret, Prog.pure_eq_ret]
  iintro ⟨#Hc, Hrk13, HO16, Hrk14⟩ HQ
  iapply (step_recvP m K 13 16 (by decide) rfl c) $$ [Hrk13 HO16]
  · isplitr; · iexact Hc
    isplitl [Hrk13]; · iexact Hrk13
    iexact HO16
  iintro ⟨HO16, Hzr13, Hrp13⟩
  iapply (step_recvP m K 14 16 (by decide) rfl c) $$ [Hrk14 HO16]
  · isplitr; · iexact Hc
    isplitl [Hrk14]; · iexact Hrk14
    iexact HO16
  iintro ⟨HO16, Hzr14, Hrp14⟩
  iapply (w_ret c)
  iapply HQ
  isplitl [Hzr13]; · iexact Hzr13
  isplitl [Hrp13]; · iexact Hrp13
  isplitl [HO16]; · iexact HO16
  isplitl [Hzr14]; · iexact Hzr14
  iexact Hrp14

theorem part27 (v2 : BitVec 32) (v5 : BitVec 32) (v8 : BitVec 32) (v43 : BitVec 32) (Q : (PUnit) → sProp 𝕄) :
    iprop(ctx m K ∗ recvKit 15 c ∗ ow c (oweS 16 c) ∗ recvKit 3 c ∗ outFlight m c 1 (qr (xn c)) ∗ recvPay m 13 c ∗ recvPay m 14 c)
      ⊢ iprop((∀ r, (semVal (recvCell 15 c) 0 ∗ semVal (recvCell 3 c) 0 ∗ outDone m c (qr (xn c)) ∗ semVal (stsCell c 1) 0 ∗ ow c (oweS 16 c) ∗ pp m c 13 LSh ∗ pp m c 14 LSh ∗ pp m c 15 LSh ∗ pp m c 3 LSh ∗ pp m c 13 KSh ∗ pp m c 14 KSh ∗ pp m c 15 KSh ∗ pp m c 3 KSh ∗ stripP m c 1 (qr (xn (yn c)))) -∗ Q r) -∗ W0 c (k0_part27 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v2 v5 v8 v43) Q) := by
  rw [k0_part27_eq_skeleton]; unfold k0_part27_skel
  simp only [semSignalWord, semWaitWord, Prog.lift, Prog.bind_op, Prog.bind_ret, Prog.pure_eq_ret]
  iintro ⟨#Hc, Hrk15, HO16, Hrk3, Hof1x, Hrp13, Hrp14⟩ HQ
  iapply (step_recvP m K 15 16 (by decide) rfl c) $$ [Hrk15 HO16]
  · isplitr; · iexact Hc
    isplitl [Hrk15]; · iexact Hrk15
    iexact HO16
  iintro ⟨HO16, Hzr15, Hrp15⟩
  iapply (step_recvP m K 3 16 (by decide) rfl c) $$ [Hrk3 HO16]
  · isplitr; · iexact Hc
    isplitl [Hrk3]; · iexact Hrk3
    iexact HO16
  iintro ⟨HO16, Hzr3, Hrp3⟩
  iapply (step_outDone m K c 1 (qr (xn c)) 16 rfl) $$ [Hof1x HO16]
  · isplitr; · iexact Hc
    isplitl [Hof1x]; · iexact Hof1x
    iexact HO16
  iintro ⟨Hodx, Hta1, Hzt1, HO16⟩
  ihave H := ((split_rest m c 13 (by decide)).1) $$ Hrp13
  icases H with ⟨HL13, HK13⟩
  ihave H := ((split_rest m c 14 (by decide)).1) $$ Hrp14
  icases H with ⟨HL14, HK14⟩
  ihave H := ((split_rest m c 15 (by decide)).1) $$ Hrp15
  icases H with ⟨HL15, HK15⟩
  ihave H := ((split_rest m c 3 (by decide)).1) $$ Hrp3
  icases H with ⟨HL3, HK3⟩
  ihave Hqd := (Entails.of_eq (quarter_xy m c).symm) $$ [HK13 HK14 HK15 HK3]
  · isplitl [HK13]; · iexact HK13
    isplitl [HK14]; · iexact HK14
    isplitl [HK15]; · iexact HK15
    iexact HK3
  iapply (step_ldQuart m c (qr (xn (yn c))) (off17_eq c)) $$ Hqd
  iintro Hqd
  ihave H := (Entails.of_eq (quarter_xy m c)) $$ Hqd
  icases H with ⟨HK13, HK14, HK15, HK3⟩
  iapply (step_deadStrip c 1 rfl) $$ Hta1
  iintro %v Hta1
  iapply (step_stStrip m c 1 (qr (xn (yn c))) rfl rfl) $$ Hta1
  iintro Htp1d
  iapply (w_ret c)
  iapply HQ
  isplitl [Hzr15]; · iexact Hzr15
  isplitl [Hzr3]; · iexact Hzr3
  isplitl [Hodx]; · iexact Hodx
  isplitl [Hzt1]; · iexact Hzt1
  isplitl [HO16]; · iexact HO16
  isplitl [HL13]; · iexact HL13
  isplitl [HL14]; · iexact HL14
  isplitl [HL15]; · iexact HL15
  isplitl [HL3]; · iexact HL3
  isplitl [HK13]; · iexact HK13
  isplitl [HK14]; · iexact HK14
  isplitl [HK15]; · iexact HK15
  isplitl [HK3]; · iexact HK3
  iexact Htp1d

theorem part28  (Q : (PUnit) → sProp 𝕄) :
    iprop(ctx m K ∗ stripP m c 1 (qr (xn (yn c))) ∗ outAny (F := F) c (qr (xn (yn c))) ∗ semVal (stsCell c 1) 0 ∗ ow c (oweS 16 c) ∗ outFlight m c 0 (qr (yn c)) ∗ sentKit 1 c ∗ sentKit 2 c ∗ sentKit 3 c ∗ sentKit 5 c)
      ⊢ iprop((∀ r, (outDone m c (qr (xn (yn c))) ∗ stripAny (F := F) c 1 ∗ semVal (stsCell c 1) 0 ∗ outDone m c (qr (yn c)) ∗ stripAny (F := F) c 0 ∗ semVal (stsCell c 0) 0 ∗ semVal (sendCell 1 c) 0 ∗ sendPay m 1 c ∗ semVal (sendCell 2 c) 0 ∗ sendPay m 2 c ∗ semVal (sendCell 3 c) 0 ∗ sendPay m 3 c ∗ ow c (oweS 16 c) ∗ semVal (sendCell 5 c) 0 ∗ sendPay m 5 c) -∗ Q r) -∗ W0 c (k0_part28 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c) Q) := by
  rw [k0_part28_eq_skeleton]; unfold k0_part28_skel
  simp only [semSignalWord, semWaitWord, Prog.lift, Prog.bind_op, Prog.bind_ret, Prog.pure_eq_ret]
  iintro ⟨#Hc, Htp1d, Hoad, Hzt1, HO16, Hof0y, Hst1, Hst2, Hst3, Hst5⟩ HQ
  iapply (step_out m c 1 (qr (xn (yn c))) (off18_eq c) rfl) $$ [Htp1d Hoad Hzt1]
  · isplitl [Htp1d]; · iexact Htp1d
    isplitl [Hoad]; · iexact Hoad
    iexact Hzt1
  iintro Hof1d
  iapply (step_outDone m K c 1 (qr (xn (yn c))) 16 rfl) $$ [Hof1d HO16]
  · isplitr; · iexact Hc
    isplitl [Hof1d]; · iexact Hof1d
    iexact HO16
  iintro ⟨Hodd, Hta1, Hzt1, HO16⟩
  iapply (step_outDone m K c 0 (qr (yn c)) 16 rfl) $$ [Hof0y HO16]
  · isplitr; · iexact Hc
    isplitl [Hof0y]; · iexact Hof0y
    iexact HO16
  iintro ⟨Hody, Hta0, Hzt0, HO16⟩
  iapply (step_sentP m K 1 16 rfl c) $$ [Hst1 HO16]
  · isplitr; · iexact Hc
    isplitl [Hst1]; · iexact Hst1
    iexact HO16
  iintro ⟨HO16, Hzs1, Hsp1⟩
  iapply (step_sentP m K 2 16 rfl c) $$ [Hst2 HO16]
  · isplitr; · iexact Hc
    isplitl [Hst2]; · iexact Hst2
    iexact HO16
  iintro ⟨HO16, Hzs2, Hsp2⟩
  iapply (step_sentP m K 3 16 rfl c) $$ [Hst3 HO16]
  · isplitr; · iexact Hc
    isplitl [Hst3]; · iexact Hst3
    iexact HO16
  iintro ⟨HO16, Hzs3, Hsp3⟩
  iapply (step_sentP m K 5 16 rfl c) $$ [Hst5 HO16]
  · isplitr; · iexact Hc
    isplitl [Hst5]; · iexact Hst5
    iexact HO16
  iintro ⟨HO16, Hzs5, Hsp5⟩
  iapply (w_ret c)
  iapply HQ
  isplitl [Hodd]; · iexact Hodd
  isplitl [Hta1]; · iexact Hta1
  isplitl [Hzt1]; · iexact Hzt1
  isplitl [Hody]; · iexact Hody
  isplitl [Hta0]; · iexact Hta0
  isplitl [Hzt0]; · iexact Hzt0
  isplitl [Hzs1]; · iexact Hzs1
  isplitl [Hsp1]; · iexact Hsp1
  isplitl [Hzs2]; · iexact Hzs2
  isplitl [Hsp2]; · iexact Hsp2
  isplitl [Hzs3]; · iexact Hzs3
  isplitl [Hsp3]; · iexact Hsp3
  isplitl [HO16]; · iexact HO16
  isplitl [Hzs5]; · iexact Hzs5
  iexact Hsp5

theorem part29  (Q : (PUnit) → sProp 𝕄) :
    iprop(ctx m K ∗ sentKit 6 c ∗ ow c (oweS 16 c) ∗ sentKit 8 c ∗ sentKit 9 c ∗ sentKit 11 c ∗ sentKit 12 c ∗ sentKit 13 c)
      ⊢ iprop((∀ r, (semVal (sendCell 6 c) 0 ∗ sendPay m 6 c ∗ semVal (sendCell 8 c) 0 ∗ sendPay m 8 c ∗ semVal (sendCell 9 c) 0 ∗ sendPay m 9 c ∗ semVal (sendCell 11 c) 0 ∗ sendPay m 11 c ∗ semVal (sendCell 12 c) 0 ∗ sendPay m 12 c ∗ ow c (oweS 16 c) ∗ semVal (sendCell 13 c) 0 ∗ sendPay m 13 c) -∗ Q r) -∗ W0 c (k0_part29 ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c) Q) := by
  rw [k0_part29_eq_skeleton]; unfold k0_part29_skel
  simp only [semSignalWord, semWaitWord, Prog.lift, Prog.bind_op, Prog.bind_ret, Prog.pure_eq_ret]
  iintro ⟨#Hc, Hst6, HO16, Hst8, Hst9, Hst11, Hst12, Hst13⟩ HQ
  iapply (step_sentP m K 6 16 rfl c) $$ [Hst6 HO16]
  · isplitr; · iexact Hc
    isplitl [Hst6]; · iexact Hst6
    iexact HO16
  iintro ⟨HO16, Hzs6, Hsp6⟩
  iapply (step_sentP m K 8 16 rfl c) $$ [Hst8 HO16]
  · isplitr; · iexact Hc
    isplitl [Hst8]; · iexact Hst8
    iexact HO16
  iintro ⟨HO16, Hzs8, Hsp8⟩
  iapply (step_sentP m K 9 16 rfl c) $$ [Hst9 HO16]
  · isplitr; · iexact Hc
    isplitl [Hst9]; · iexact Hst9
    iexact HO16
  iintro ⟨HO16, Hzs9, Hsp9⟩
  iapply (step_sentP m K 11 16 rfl c) $$ [Hst11 HO16]
  · isplitr; · iexact Hc
    isplitl [Hst11]; · iexact Hst11
    iexact HO16
  iintro ⟨HO16, Hzs11, Hsp11⟩
  iapply (step_sentP m K 12 16 rfl c) $$ [Hst12 HO16]
  · isplitr; · iexact Hc
    isplitl [Hst12]; · iexact Hst12
    iexact HO16
  iintro ⟨HO16, Hzs12, Hsp12⟩
  iapply (step_sentP m K 13 16 rfl c) $$ [Hst13 HO16]
  · isplitr; · iexact Hc
    isplitl [Hst13]; · iexact Hst13
    iexact HO16
  iintro ⟨HO16, Hzs13, Hsp13⟩
  iapply (w_ret c)
  iapply HQ
  isplitl [Hzs6]; · iexact Hzs6
  isplitl [Hsp6]; · iexact Hsp6
  isplitl [Hzs8]; · iexact Hzs8
  isplitl [Hsp8]; · iexact Hsp8
  isplitl [Hzs9]; · iexact Hzs9
  isplitl [Hsp9]; · iexact Hsp9
  isplitl [Hzs11]; · iexact Hzs11
  isplitl [Hsp11]; · iexact Hsp11
  isplitl [Hzs12]; · iexact Hzs12
  isplitl [Hsp12]; · iexact Hsp12
  isplitl [HO16]; · iexact HO16
  isplitl [Hzs13]; · iexact Hzs13
  iexact Hsp13

end Cert.KernelIdeal.Run

end
-- ==== Proof.Body.lean ====
/-
# The whole body

The parts one after the other, from what the body takes to what it leaves.
-/
module

public import proofs.«01_k».proof.Proof.Parts2

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig Unit (Elt F) ℕ UU ℕ

variable (m : (ℓ : Loc nD τ sig) → Buf (Elt F) ℓ) (K : Dev nD × KC → ℕ) (c : Dev nD)

theorem w_bind {α β : Type} {p : Prog (TpuEff nD τ sig (Elt F) Λ₀ .tc) α} {k : α → Prog (TpuEff nD τ sig (Elt F) Λ₀ .tc) β} {Q : β → sProp 𝕄} :
    W0 c p (fun a => W0 c (k a) Q) ⊢ W0 c (p >>= k) Q := by
  unfold W0
  rw [wp_bind]

/-- What the body takes. -/
def bodyIn : sProp 𝕄 := iprop(arr0 m c ∗ stageAny (F := F) c ∗ semVal (ldCell c) 0 ∗ ow c (owe 0 c) ∗ slotAny (F := F) c 0 ∗ dutyTok ER (barCell (sigTo 0 c)) 0 0 ∗ barPay (F := F) (sigTo 0 c) 0 ∗ dutyTok ER (barCell (sigTo 1 c)) 0 1 ∗ barPay (F := F) (sigTo 1 c) 1 ∗ dutyTok ER (barCell (sigTo 2 c)) 0 2 ∗ barPay (F := F) (sigTo 2 c) 2 ∗ dutyTok ER (barCell (sigTo 3 c)) 0 3 ∗ barPay (F := F) (sigTo 3 c) 3 ∗ dutyTok ER (barCell (sigTo 4 c)) 0 4 ∗ barPay (F := F) (sigTo 4 c) 4 ∗ dutyTok ER (barCell (sigTo 5 c)) 0 5 ∗ barPay (F := F) (sigTo 5 c) 5 ∗ barKit c ∗ preKits (F := F) c ∗ arr1 m c ∗ recvKit 0 c ∗ arr2 m c ∗ gamP m c ∗ (∃ f, allP (F := F) c (pset (pc c 0)) fullShare f) ∗ recvKit 4 c ∗ recvKit 7 c ∗ recvKit 10 c ∗ stripAny (F := F) c 0 ∗ outAny (F := F) c (qr c) ∗ semVal (stsCell c 0) 0 ∗ recvKit 2 c ∗ recvKit 6 c ∗ recvKit 1 c ∗ recvKit 5 c ∗ recvKit 8 c ∗ recvKit 11 c ∗ stripAny (F := F) c 1 ∗ outAny (F := F) c (qr (xn c)) ∗ semVal (stsCell c 1) 0 ∗ recvKit 9 c ∗ recvKit 12 c ∗ outAny (F := F) c (qr (yn c)) ∗ recvKit 13 c ∗ recvKit 14 c ∗ recvKit 15 c ∗ recvKit 3 c ∗ outAny (F := F) c (qr (xn (yn c))))
/-- What the body leaves. -/
def bodyOut : sProp 𝕄 := iprop(arr0 m c ∗ semVal (barCell c) 0 ∗ arr1 m c ∗ semVal (sendCell 0 c) 0 ∗ semVal (recvCell 0 c) 0 ∗ slotAny (F := F) c 0 ∗ arr2 m c ∗ semVal (ldCell c) 0 ∗ gamP m c ∗ slotAny (F := F) c 1 ∗ stageAny (F := F) c ∗ semVal (sendCell 4 c) 0 ∗ sendPay m 4 c ∗ semVal (recvCell 4 c) 0 ∗ pp m c 4 LSh.right.right ∗ semVal (sendCell 7 c) 0 ∗ sendPay m 7 c ∗ semVal (recvCell 7 c) 0 ∗ pp m c 7 LSh.right.right ∗ semVal (sendCell 10 c) 0 ∗ sendPay m 10 c ∗ semVal (recvCell 10 c) 0 ∗ pp m c 10 LSh.left.left ∗ pp m c 10 LSh.right.right ∗ pp m c 0 KSh ∗ pp m c 4 KSh ∗ pp m c 7 KSh ∗ pp m c 10 KSh ∗ semVal (recvCell 2 c) 0 ∗ semVal (recvCell 6 c) 0 ∗ semVal (recvCell 1 c) 0 ∗ semVal (recvCell 5 c) 0 ∗ semVal (recvCell 8 c) 0 ∗ semVal (recvCell 11 c) 0 ∗ pp m c 1 LSh ∗ pp m c 5 LSh ∗ pp m c 11 LSh ∗ pp m c 1 KSh ∗ pp m c 5 KSh ∗ pp m c 8 KSh ∗ pp m c 11 KSh ∗ semVal (recvCell 9 c) 0 ∗ semVal (recvCell 12 c) 0 ∗ outDone m c (qr c) ∗ pp m c 9 LSh ∗ pp m c 12 LSh ∗ pp m c 2 KSh ∗ pp m c 6 KSh ∗ pp m c 9 KSh ∗ pp m c 12 KSh ∗ semVal (recvCell 13 c) 0 ∗ semVal (recvCell 14 c) 0 ∗ semVal (recvCell 15 c) 0 ∗ semVal (recvCell 3 c) 0 ∗ outDone m c (qr (xn c)) ∗ pp m c 13 LSh ∗ pp m c 14 LSh ∗ pp m c 15 LSh ∗ pp m c 3 LSh ∗ pp m c 13 KSh ∗ pp m c 14 KSh ∗ pp m c 15 KSh ∗ pp m c 3 KSh ∗ outDone m c (qr (xn (yn c))) ∗ stripAny (F := F) c 1 ∗ semVal (stsCell c 1) 0 ∗ outDone m c (qr (yn c)) ∗ stripAny (F := F) c 0 ∗ semVal (stsCell c 0) 0 ∗ semVal (sendCell 1 c) 0 ∗ sendPay m 1 c ∗ semVal (sendCell 2 c) 0 ∗ sendPay m 2 c ∗ semVal (sendCell 3 c) 0 ∗ sendPay m 3 c ∗ semVal (sendCell 5 c) 0 ∗ sendPay m 5 c ∗ semVal (sendCell 6 c) 0 ∗ sendPay m 6 c ∗ semVal (sendCell 8 c) 0 ∗ sendPay m 8 c ∗ semVal (sendCell 9 c) 0 ∗ sendPay m 9 c ∗ semVal (sendCell 11 c) 0 ∗ sendPay m 11 c ∗ semVal (sendCell 12 c) 0 ∗ sendPay m 12 c ∗ semVal (sendCell 13 c) 0 ∗ sendPay m 13 c ∗ semVal (sendCell 14 c) 0 ∗ sendPay m 14 c ∗ ow c (oweS 16 c) ∗ semVal (sendCell 15 c) 0 ∗ sendPay m 15 c)

set_option maxHeartbeats 2000000 in
theorem body_run (Q : PUnit → sProp 𝕄) :
    iprop(ctx m K ∗ bodyIn m c) ⊢ iprop((bodyOut m c -∗ Q ⟨⟩) -∗ W0 c (cc0_body ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) Q) := by
  rw [cc0_body_eq_skeleton]; unfold cc0_body_skel bodyIn bodyOut
  iintro ⟨#Hc, HA0, Hstg, Hzld, HB0, Hsa0, Htok0, Hbp0, Htok1, Hbp1, Htok2, Hbp2, Htok3, Hbp3, Htok4, Hbp4, Htok5, Hbp5, Hbar, Hpre, HA1, Hrk0, HA2, Hgam, Hany0, Hrk4, Hrk7, Hrk10, Hta0, Hoao, Hzt0, Hrk2, Hrk6, Hrk1, Hrk5, Hrk8, Hrk11, Hta1, Hoax, Hzt1, Hrk9, Hrk12, Hoay, Hrk13, Hrk14, Hrk15, Hrk3, Hoad⟩ HQ
  iapply (w_bind c)
  iapply (part1 c)
  iintro %r %hr
  obtain ⟨d0, v2, v5, v8, v19, v31, v33, v34, c2⟩ := r
  have hr : c = d0 := hr.symm
  subst hr
  iapply (w_bind _)
  iapply (part2 m K _ _ _ _ _ _ _ ) $$ [HA0 Hstg Hzld HB0 Hsa0]
  · isplitr; · iexact Hc
    isplitl [HA0]; · iexact HA0
    isplitl [Hstg]; · iexact Hstg
    isplitl [Hzld]; · iexact Hzld
    isplitl [HB0]; · iexact HB0
    iexact Hsa0
  iintro %r ⟨HA0, Hzld, HB0, Hsp0, Hstg⟩
  obtain ⟨v36, v39, v43, v44, v45, v67⟩ := r
  iapply (w_bind _)
  iapply (part3 m K _ _ _ _ _ ) $$ [HB0 Htok0 Hbp0]
  · isplitr; · iexact Hc
    isplitl [HB0]; · iexact HB0
    isplitl [Htok0]; · iexact Htok0
    iexact Hbp0
  iintro %r ⟨%hr, HB1⟩
  obtain ⟨v68, v79, v80, v81, v92, v93, v101⟩ := r
  have hr : v93 = _ := hr
  subst hr
  iapply (w_bind _)
  iapply (part4 m K _ _ _ _ _ _ _ _ _ _ _ _ _ _ ) $$ [HB1 Htok1 Hbp1 Htok2 Hbp2 Htok3 Hbp3 Htok4 Hbp4 Htok5 Hbp5 Hbar]
  · isplitr; · iexact Hc
    isplitl [HB1]; · iexact HB1
    isplitl [Htok1]; · iexact Htok1
    isplitl [Hbp1]; · iexact Hbp1
    isplitl [Htok2]; · iexact Htok2
    isplitl [Hbp2]; · iexact Hbp2
    isplitl [Htok3]; · iexact Htok3
    isplitl [Hbp3]; · iexact Hbp3
    isplitl [Htok4]; · iexact Htok4
    isplitl [Hbp4]; · iexact Hbp4
    isplitl [Htok5]; · iexact Htok5
    isplitl [Hbp5]; · iexact Hbp5
    iexact Hbar
  iintro %r ⟨HO0, Hzb, Hlands⟩
  iapply (w_bind _)
  iapply (part5 m K _ _ _ _ _ _ ) $$ [Hpre Hlands Hsp0 HO0 HA1 Hstg Hzld]
  · isplitr; · iexact Hc
    isplitl [Hpre]; · iexact Hpre
    isplitl [Hlands]; · iexact Hlands
    isplitl [Hsp0]; · iexact Hsp0
    isplitl [HO0]; · iexact HO0
    isplitl [HA1]; · iexact HA1
    isplitl [Hstg]; · iexact Hstg
    iexact Hzld
  iintro %r ⟨Hkit1, Hkit2, Hkit3, Hkit4, Hkit5, Hkit6, Hkit7, Hkit8, Hkit9, Hkit10, Hkit11, Hkit12, Hkit13, Hkit14, Hkit15, Hst0, HA1, HstgP, Hzld, HO1⟩
  iapply (w_bind _)
  iapply (part6 m K _ _ _ _ _ ) $$ [Hst0 HO1 Hrk0 HstgP]
  · isplitr; · iexact Hc
    isplitl [Hst0]; · iexact Hst0
    isplitl [HO1]; · iexact HO1
    isplitl [Hrk0]; · iexact Hrk0
    iexact HstgP
  iintro %r ⟨Hzs0, HO1, Hzr0, Hsa0, Hsl1, Hstg⟩
  iapply (w_bind _)
  iapply (part7 m K _ _ _ ) $$ [HA2 Hstg Hzld HO1 Hsl1 Hgam]
  · isplitr; · iexact Hc
    isplitl [HA2]; · iexact HA2
    isplitl [Hstg]; · iexact Hstg
    isplitl [Hzld]; · iexact Hzld
    isplitl [HO1]; · iexact HO1
    isplitl [Hsl1]; · iexact Hsl1
    iexact Hgam
  iintro %r ⟨%hr, HA2, Hzld, HO1, Hgam, Hsa1, Hstg⟩
  obtain ⟨v199, v225, v226⟩ := r
  have hr : v225 = _ := hr
  subst hr
  iapply (w_bind _)
  iapply (part8 m K _ _ _ _ _ _ _ _ _ ) $$ [Hany0 Hkit1 HO1]
  · isplitr; · iexact Hc
    isplitl [Hany0]; · iexact Hany0
    isplitl [Hkit1]; · iexact Hkit1
    iexact HO1
  iintro %r ⟨HK0, Hsp4, Hsp2, Hsp3, Hst1, HO2⟩
  obtain ⟨v260, c1⟩ := r
  iapply (w_bind _)
  iapply (part9 m K _ _ _ _ _ _ _ _ _ ) $$ [Hkit2 Hsp2 HO2 Hkit3 Hsp3]
  · isplitr; · iexact Hc
    isplitl [Hkit2]; · iexact Hkit2
    isplitl [Hsp2]; · iexact Hsp2
    isplitl [HO2]; · iexact HO2
    isplitl [Hkit3]; · iexact Hkit3
    iexact Hsp3
  iintro %r ⟨Hst2, Hst3, HO4⟩
  obtain ⟨v295, v296⟩ := r
  iapply (w_bind _)
  iapply (part10 m K _ _ _ _ _ _ _ ) $$ [Hkit4 Hsp4 HO4]
  · isplitr; · iexact Hc
    isplitl [Hkit4]; · iexact Hkit4
    isplitl [Hsp4]; · iexact Hsp4
    iexact HO4
  iintro %r ⟨HO5, Hzs4, Hsp4⟩
  iapply (w_bind _)
  iapply (part11 m K _ _ _ _ _ _ _ _ ) $$ [Hrk4 HO5 Hkit5]
  · isplitr; · iexact Hc
    isplitl [Hrk4]; · iexact Hrk4
    isplitl [HO5]; · iexact HO5
    iexact Hkit5
  iintro %r ⟨Hzr4, HK4, Hsp7, Hsp6, HRR4, Hst5, HO6⟩
  iapply (w_bind _)
  iapply (part12 m K _ _ _ _ ) $$ [Hkit6 Hsp6 HO6]
  · isplitr; · iexact Hc
    isplitl [Hkit6]; · iexact Hkit6
    isplitl [Hsp6]; · iexact Hsp6
    iexact HO6
  iintro %r ⟨Hst6, HO7⟩
  obtain ⟨v388, v392, v393, v398⟩ := r
  iapply (w_bind _)
  iapply (part13 m K _ _ _ _ _ _ _ _ _ ) $$ [Hkit7 Hsp7 HO7]
  · isplitr; · iexact Hc
    isplitl [Hkit7]; · iexact Hkit7
    isplitl [Hsp7]; · iexact Hsp7
    iexact HO7
  iintro %r ⟨HO8, Hzs7, Hsp7⟩
  iapply (w_bind _)
  iapply (part14 m K _ _ _ _ _ _ _ _ ) $$ [Hrk7 HO8 Hkit8]
  · isplitr; · iexact Hc
    isplitl [Hrk7]; · iexact Hrk7
    isplitl [HO8]; · iexact HO8
    iexact Hkit8
  iintro %r ⟨Hzr7, HK7, Hsp10, Hsp9, HRR7, Hst8, HO9⟩
  iapply (w_bind _)
  iapply (part15 m K _ _ _ _ ) $$ [Hkit9 Hsp9 HO9]
  · isplitr; · iexact Hc
    isplitl [Hkit9]; · iexact Hkit9
    isplitl [Hsp9]; · iexact Hsp9
    iexact HO9
  iintro %r ⟨Hst9, HO10⟩
  obtain ⟨v493, v500⟩ := r
  iapply (w_bind _)
  iapply (part16 m K _ _ _ _ _ _ _ _ ) $$ [Hkit10 Hsp10 HO10 Hrk10]
  · isplitr; · iexact Hc
    isplitl [Hkit10]; · iexact Hkit10
    isplitl [Hsp10]; · iexact Hsp10
    isplitl [HO10]; · iexact HO10
    iexact Hrk10
  iintro %r ⟨Hzs10, Hsp10, HO11, Hzr10, HK10, HLL10, Hsp11, Hsp12, HRR10⟩
  iapply (w_bind _)
  iapply (part17 m K _ _ _ _ _ _ _ _ ) $$ [Hkit11 Hsp11 HO11 Hkit12 Hsp12 HK0 HK4 HK7 HK10 Hta0]
  · isplitr; · iexact Hc
    isplitl [Hkit11]; · iexact Hkit11
    isplitl [Hsp11]; · iexact Hsp11
    isplitl [HO11]; · iexact HO11
    isplitl [Hkit12]; · iexact Hkit12
    isplitl [Hsp12]; · iexact Hsp12
    isplitl [HK0]; · iexact HK0
    isplitl [HK4]; · iexact HK4
    isplitl [HK7]; · iexact HK7
    isplitl [HK10]; · iexact HK10
    iexact Hta0
  iintro %r ⟨%hr, Hst11, Hst12, HO13, HK0, HK4, HK7, HK10, Hta0⟩
  subst hr
  iapply (w_bind _)
  iapply (part18 m K _ _ _ _ _ _ ) $$ [Hta0 Hoao Hzt0 Hrk2 HO13]
  · isplitr; · iexact Hc
    isplitl [Hta0]; · iexact Hta0
    isplitl [Hoao]; · iexact Hoao
    isplitl [Hzt0]; · iexact Hzt0
    isplitl [Hrk2]; · iexact Hrk2
    iexact HO13
  iintro %r ⟨Hof0o, HO13, Hzr2, Hrp2⟩
  obtain ⟨v595, v596, v597, v598⟩ := r
  iapply (w_bind _)
  iapply (part19 m K _ _ _ _ _ _ _ _ _ _ ) $$ [Hrp2 Hkit13 HO13]
  · isplitr; · iexact Hc
    isplitl [Hrp2]; · iexact Hrp2
    isplitl [Hkit13]; · iexact Hkit13
    iexact HO13
  iintro %r ⟨HK2, Hst13, HO14⟩
  iapply (w_bind _)
  iapply (part20 m K _ _ _ _ _ ) $$ [Hrk6 HO14 Hkit14]
  · isplitr; · iexact Hc
    isplitl [Hrk6]; · iexact Hrk6
    isplitl [HO14]; · iexact HO14
    iexact Hkit14
  iintro %r ⟨Hzr6, HK6, Hst14, HO15⟩
  iapply (w_bind _)
  iapply (part21 m K _ _ _ _ _ ) $$ [Hrk1 HO15 Hrk5]
  · isplitr; · iexact Hc
    isplitl [Hrk1]; · iexact Hrk1
    isplitl [HO15]; · iexact HO15
    iexact Hrk5
  iintro %r ⟨Hzr1, Hrp1, HO15, Hzr5, Hrp5⟩
  iapply (w_bind _)
  iapply (part22 m K _ _ _ _ _ _ ) $$ [Hrk8 HO15]
  · isplitr; · iexact Hc
    isplitl [Hrk8]; · iexact Hrk8
    iexact HO15
  iintro %r ⟨HO15, Hzr8, Hrp8⟩
  iapply (w_bind _)
  iapply (part23 m K _ _ _ _ _ _ _ ) $$ [Hrp8 Hkit15 HO15 Hrk11 Hrp1 Hrp5 Hta1]
  · isplitr; · iexact Hc
    isplitl [Hrp8]; · iexact Hrp8
    isplitl [Hkit15]; · iexact Hkit15
    isplitl [HO15]; · iexact HO15
    isplitl [Hrk11]; · iexact Hrk11
    isplitl [Hrp1]; · iexact Hrp1
    isplitl [Hrp5]; · iexact Hrp5
    iexact Hta1
  iintro %r ⟨Hst15, HO16, Hzr11, HL1, HL5, HL11, HK1, HK5, HK8, HK11, Htp1x⟩
  iapply (w_bind _)
  iapply (part24 m K _ _ _ _ _ ) $$ [Htp1x Hoax Hzt1 Hrk9 HO16]
  · isplitr; · iexact Hc
    isplitl [Htp1x]; · iexact Htp1x
    isplitl [Hoax]; · iexact Hoax
    isplitl [Hzt1]; · iexact Hzt1
    isplitl [Hrk9]; · iexact Hrk9
    iexact HO16
  iintro %r ⟨Hof1x, HO16, Hzr9, Hrp9⟩
  iapply (w_bind _)
  iapply (part25 m K _ _ _ _ _ _ ) $$ [Hrk12 HO16 Hof0o Hrp9 HK2 HK6 Hoay]
  · isplitr; · iexact Hc
    isplitl [Hrk12]; · iexact Hrk12
    isplitl [HO16]; · iexact HO16
    isplitl [Hof0o]; · iexact Hof0o
    isplitl [Hrp9]; · iexact Hrp9
    isplitl [HK2]; · iexact HK2
    isplitl [HK6]; · iexact HK6
    iexact Hoay
  iintro %r ⟨Hzr12, Hodo, HO16, HL9, HL12, HK2, HK6, HK9, HK12, Hof0y⟩
  obtain ⟨v824, v825⟩ := r
  iapply (w_bind _)
  iapply (part26 m K _ _ _ _ _ _ _ ) $$ [Hrk13 HO16 Hrk14]
  · isplitr; · iexact Hc
    isplitl [Hrk13]; · iexact Hrk13
    isplitl [HO16]; · iexact HO16
    iexact Hrk14
  iintro %r ⟨Hzr13, Hrp13, HO16, Hzr14, Hrp14⟩
  iapply (w_bind _)
  iapply (part27 m K _ _ _ _ _ ) $$ [Hrk15 HO16 Hrk3 Hof1x Hrp13 Hrp14]
  · isplitr; · iexact Hc
    isplitl [Hrk15]; · iexact Hrk15
    isplitl [HO16]; · iexact HO16
    isplitl [Hrk3]; · iexact Hrk3
    isplitl [Hof1x]; · iexact Hof1x
    isplitl [Hrp13]; · iexact Hrp13
    iexact Hrp14
  iintro %r ⟨Hzr15, Hzr3, Hodx, Hzt1, HO16, HL13, HL14, HL15, HL3, HK13, HK14, HK15, HK3, Htp1d⟩
  iapply (w_bind _)
  iapply (part28 m K _ ) $$ [Htp1d Hoad Hzt1 HO16 Hof0y Hst1 Hst2 Hst3 Hst5]
  · isplitr; · iexact Hc
    isplitl [Htp1d]; · iexact Htp1d
    isplitl [Hoad]; · iexact Hoad
    isplitl [Hzt1]; · iexact Hzt1
    isplitl [HO16]; · iexact HO16
    isplitl [Hof0y]; · iexact Hof0y
    isplitl [Hst1]; · iexact Hst1
    isplitl [Hst2]; · iexact Hst2
    isplitl [Hst3]; · iexact Hst3
    iexact Hst5
  iintro %r ⟨Hodd, Hta1, Hzt1, Hody, Hta0, Hzt0, Hzs1, Hsp1, Hzs2, Hsp2, Hzs3, Hsp3, HO16, Hzs5, Hsp5⟩
  iapply (w_bind _)
  iapply (part29 m K _ ) $$ [Hst6 HO16 Hst8 Hst9 Hst11 Hst12 Hst13]
  · isplitr; · iexact Hc
    isplitl [Hst6]; · iexact Hst6
    isplitl [HO16]; · iexact HO16
    isplitl [Hst8]; · iexact Hst8
    isplitl [Hst9]; · iexact Hst9
    isplitl [Hst11]; · iexact Hst11
    isplitl [Hst12]; · iexact Hst12
    iexact Hst13
  iintro %r ⟨Hzs6, Hsp6, Hzs8, Hsp8, Hzs9, Hsp9, Hzs11, Hsp11, Hzs12, Hsp12, HO16, Hzs13, Hsp13⟩
  simp only [Prog.lift, Prog.bind_op, Prog.bind_ret, Prog.pure_eq_ret]
  iapply (step_sentP m K 14 16 rfl c) $$ [Hst14 HO16]
  · isplitr; · iexact Hc
    isplitl [Hst14]; · iexact Hst14
    iexact HO16
  iintro ⟨HO16, Hzs14, Hsp14⟩
  iapply (step_sentP m K 15 16 rfl c) $$ [Hst15 HO16]
  · isplitr; · iexact Hc
    isplitl [Hst15]; · iexact Hst15
    iexact HO16
  iintro ⟨HO16, Hzs15, Hsp15⟩
  iapply (w_ret _)
  iapply HQ
  isplitl [HA0]; · iexact HA0
  isplitl [Hzb]; · iexact Hzb
  isplitl [HA1]; · iexact HA1
  isplitl [Hzs0]; · iexact Hzs0
  isplitl [Hzr0]; · iexact Hzr0
  isplitl [Hsa0]; · iexact Hsa0
  isplitl [HA2]; · iexact HA2
  isplitl [Hzld]; · iexact Hzld
  isplitl [Hgam]; · iexact Hgam
  isplitl [Hsa1]; · iexact Hsa1
  isplitl [Hstg]; · iexact Hstg
  isplitl [Hzs4]; · iexact Hzs4
  isplitl [Hsp4]; · iexact Hsp4
  isplitl [Hzr4]; · iexact Hzr4
  isplitl [HRR4]; · iexact HRR4
  isplitl [Hzs7]; · iexact Hzs7
  isplitl [Hsp7]; · iexact Hsp7
  isplitl [Hzr7]; · iexact Hzr7
  isplitl [HRR7]; · iexact HRR7
  isplitl [Hzs10]; · iexact Hzs10
  isplitl [Hsp10]; · iexact Hsp10
  isplitl [Hzr10]; · iexact Hzr10
  isplitl [HLL10]; · iexact HLL10
  isplitl [HRR10]; · iexact HRR10
  isplitl [HK0]; · iexact HK0
  isplitl [HK4]; · iexact HK4
  isplitl [HK7]; · iexact HK7
  isplitl [HK10]; · iexact HK10
  isplitl [Hzr2]; · iexact Hzr2
  isplitl [Hzr6]; · iexact Hzr6
  isplitl [Hzr1]; · iexact Hzr1
  isplitl [Hzr5]; · iexact Hzr5
  isplitl [Hzr8]; · iexact Hzr8
  isplitl [Hzr11]; · iexact Hzr11
  isplitl [HL1]; · iexact HL1
  isplitl [HL5]; · iexact HL5
  isplitl [HL11]; · iexact HL11
  isplitl [HK1]; · iexact HK1
  isplitl [HK5]; · iexact HK5
  isplitl [HK8]; · iexact HK8
  isplitl [HK11]; · iexact HK11
  isplitl [Hzr9]; · iexact Hzr9
  isplitl [Hzr12]; · iexact Hzr12
  isplitl [Hodo]; · iexact Hodo
  isplitl [HL9]; · iexact HL9
  isplitl [HL12]; · iexact HL12
  isplitl [HK2]; · iexact HK2
  isplitl [HK6]; · iexact HK6
  isplitl [HK9]; · iexact HK9
  isplitl [HK12]; · iexact HK12
  isplitl [Hzr13]; · iexact Hzr13
  isplitl [Hzr14]; · iexact Hzr14
  isplitl [Hzr15]; · iexact Hzr15
  isplitl [Hzr3]; · iexact Hzr3
  isplitl [Hodx]; · iexact Hodx
  isplitl [HL13]; · iexact HL13
  isplitl [HL14]; · iexact HL14
  isplitl [HL15]; · iexact HL15
  isplitl [HL3]; · iexact HL3
  isplitl [HK13]; · iexact HK13
  isplitl [HK14]; · iexact HK14
  isplitl [HK15]; · iexact HK15
  isplitl [HK3]; · iexact HK3
  isplitl [Hodd]; · iexact Hodd
  isplitl [Hta1]; · iexact Hta1
  isplitl [Hzt1]; · iexact Hzt1
  isplitl [Hody]; · iexact Hody
  isplitl [Hta0]; · iexact Hta0
  isplitl [Hzt0]; · iexact Hzt0
  isplitl [Hzs1]; · iexact Hzs1
  isplitl [Hsp1]; · iexact Hsp1
  isplitl [Hzs2]; · iexact Hzs2
  isplitl [Hsp2]; · iexact Hsp2
  isplitl [Hzs3]; · iexact Hzs3
  isplitl [Hsp3]; · iexact Hsp3
  isplitl [Hzs5]; · iexact Hzs5
  isplitl [Hsp5]; · iexact Hsp5
  isplitl [Hzs6]; · iexact Hzs6
  isplitl [Hsp6]; · iexact Hsp6
  isplitl [Hzs8]; · iexact Hzs8
  isplitl [Hsp8]; · iexact Hsp8
  isplitl [Hzs9]; · iexact Hzs9
  isplitl [Hsp9]; · iexact Hsp9
  isplitl [Hzs11]; · iexact Hzs11
  isplitl [Hsp11]; · iexact Hsp11
  isplitl [Hzs12]; · iexact Hzs12
  isplitl [Hsp12]; · iexact Hsp12
  isplitl [Hzs13]; · iexact Hzs13
  isplitl [Hsp13]; · iexact Hsp13
  isplitl [Hzs14]; · iexact Hzs14
  isplitl [Hsp14]; · iexact Hsp14
  isplitl [HO16]; · iexact HO16
  isplitl [Hzs15]; · iexact Hzs15
  iexact Hsp15

end Cert.KernelIdeal.Run

end
-- ==== Proof.Start.lean ====
/-
# The launch

What the run starts from, dealt to the devices: each shared counter with its round open, the right to pay it to the
device that pays it, the credit of its payments to the device that waits for them.
-/
module

public import proofs.«01_k».proof.Proof.Body

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-! ## The counters a device owns -/

/-- The counters no device shares: the three a device's local copies use, and those nothing uses. -/
def lone : Fin 9 → SemLoc sig := fun i => .dma ((![1, 2, 3, 4, 5, 7, 8, 37, 39] : Fin 9 → Fin 42) i)
/-- The call's own counters: the transfers' and the others. -/
def osem : (Bool × Fin 16) ⊕ Fin 9 → SemLoc sig
  | .inl x => csem (some x)
  | .inr i => lone i

theorem ownSemFacts : Pipeline.OwnSemFacts cfg0.spec osem := by decide +kernel

/-- A device's counters no other device pays, at zero. -/
def loneSems : sProp 𝕄 := bigSep Finset.univ fun i : Fin 9 => semVal ((c : Thread nD τ), lone i) 0

theorem ownSems0_eq : (Pipeline.ownSems0 (Ix := Unit) (Name := ℕ) (U := UU) (Lvl := ℕ) (Val := Elt F) (τ := τ) osem c : sProp 𝕄)
    = iprop((bigSep Finset.univ fun x : Bool × Fin 16 => semVal (kcell (c, some x)) 0) ∗ loneSems (F := F) c) := by
  unfold Pipeline.ownSems0
  rw [BI.bigSep_univ_sum]
  rfl
theorem unscopedSems0_eq : (unscopedSems0 c : sProp 𝕄) = semVal (barCell c) 0 := by
  unfold unscopedSems0; rw [bigSep_eq_bigSepL_of_eq [SemLoc.reg barS] (by decide) (by decide)]; rfl

/-- A family over the shared counters: the barrier's, then the transfers'. -/
theorem sep_kc (Φ : KC → sProp 𝕄) : bigSep Finset.univ Φ = iprop(Φ none ∗ bigSep Finset.univ fun x : Bool × Fin 16 => Φ (some x)) := by
  rw [bigSep_univ_at Φ none]
  have h : (Finset.univ : Finset KC).erase none = Finset.univ.map Function.Embedding.some := by
    ext x; cases x <;> simp
  rw [h, BI.bigSep_map]
  rfl
/-- A family over the transfers' counters: the send ones, then the receive ones. -/
theorem sep_ends (Φ : Bool × Fin 16 → sProp 𝕄) :
    bigSep Finset.univ Φ = iprop((bigSep Finset.univ fun t : Fin 16 => Φ (false, t)) ∗ bigSep Finset.univ fun t : Fin 16 => Φ (true, t)) := by
  rw [BI.bigSep_univ_prod]
  exact bigSep_univ_eq_bigSepL [false, true] (by decide) (by decide) _

theorem sems0_eq :
    iprop(Pipeline.ownSems0 (Ix := Unit) (Name := ℕ) (U := UU) (Lvl := ℕ) (Val := Elt F) (τ := τ) osem c ∗ unscopedSems0 c)
      ⊢ iprop((bigSep Finset.univ fun k : KC => semVal (kcell (c, k)) 0) ∗ loneSems (F := F) c) := by
  rw [ownSems0_eq, unscopedSems0_eq, sep_kc]
  iintro ⟨⟨H, Hl⟩, Hb⟩
  isplitr [Hl]
  · isplitl [Hb]; · iexact Hb
    iexact H
  iexact Hl

/-! ## The tokens -/

def roundCells : Finset (GSem nD τ sig) := Finset.univ.map ⟨kcell, kcell_injective⟩

/-- The payments: six to a device's barrier, one to each of its transfers' counters. -/
abbrev TK : Type := Fin 6 ⊕ (Bool × Fin 16)
def tokOf (cj : Dev nD × TK) : GSem nD τ sig × ℕ × Fin 6 := match cj.2 with
  | .inl k => (barCell cj.1, 0, k)
  | .inr x => (kcell (cj.1, some x), 0, 0)
theorem tokOf_injective : Function.Injective tokOf := by
  have hk : ∀ {a b : Dev nD × KC} {i j : Fin 6}, ((kcell a, 0, i) : GSem nD τ sig × ℕ × Fin 6) = (kcell b, 0, j) → a = b ∧ i = j :=
    fun h => ⟨kcell_injective (congrArg Prod.fst h), congrArg (fun x => x.2.2) h⟩
  rintro ⟨c, k | x⟩ ⟨c', k' | x'⟩ h
  · obtain ⟨h1, h2⟩ := hk (a := (c, none)) (b := (c', none)) h
    obtain ⟨rfl, -⟩ := Prod.mk.inj h1
    rw [h2]
  · obtain ⟨h1, -⟩ := hk (a := (c, none)) (b := (c', some x')) h
    exact absurd (congrArg Prod.snd h1) (by simp)
  · obtain ⟨h1, -⟩ := hk (a := (c, some x)) (b := (c', none)) h
    exact absurd (congrArg Prod.snd h1) (by simp)
  · obtain ⟨h1, -⟩ := hk (a := (c, some x)) (b := (c', some x')) h
    obtain ⟨rfl, h2⟩ := Prod.mk.inj h1
    rw [Option.some.inj h2]
def roundToks : Finset (GSem nD τ sig × ℕ × Fin 6) := Finset.univ.map ⟨tokOf, tokOf_injective⟩

def u₀ : UU := (initOf (Pipeline.cells cfgs cellOf_inj) (Pipeline.launchToks cfgs cellOf_inj), (initOf roundCells roundToks, 1))

/-- The tokens of the payments to device `c`'s counters. -/
def toks : sProp 𝕄 :=
  iprop((bigSep Finset.univ fun k : Fin 6 => dutyTok ER (barCell c) 0 k) ∗ bigSep Finset.univ fun x : Bool × Fin 16 => dutyTok ER (kcell (c, some x)) 0 0)
/-- The tokens of the payments device `c` makes. -/
def payToks : sProp 𝕄 :=
  iprop((bigSep Finset.univ fun k : Fin 6 => dutyTok ER (barCell (sigTo k c)) 0 k)
    ∗ (bigSep Finset.univ fun t : Fin 16 => dutyTok ER (sendCell t c) 0 0) ∗ bigSep Finset.univ fun t : Fin 16 => dutyTok ER (recvCell t (dst t c)) 0 0)

/-- What the launch deals device `c`. -/
def Deal : sProp 𝕄 :=
  iprop((bigSep Finset.univ fun k : KC => roundState ER (Rd m) (kcell (c, k)) 0)
    ∗ (bigSep Finset.univ fun k : KC => iprop(atPos ER (kcell (c, k)) 0 ∅ 0 ∗ reached ER (kcell (c, k)) 0)) ∗ toks (F := F) c)

theorem fund : BI.own (ER (initOf roundCells roundToks)) ⊢ (|==> bigSep Finset.univ (Deal m) : sProp 𝕄) := by
  have hX (Φ : GSem nD τ sig → sProp 𝕄) : bigSep roundCells Φ = bigSep Finset.univ fun c : Dev nD => bigSep Finset.univ fun k : KC => Φ (kcell (c, k)) := by
    unfold roundCells; rw [BI.bigSep_map, BI.bigSep_univ_prod]; rfl
  have hT : bigSep roundToks (fun x => (dutyTok ER x.1 x.2.1 x.2.2 : sProp 𝕄)) = bigSep Finset.univ fun c : Dev nD => toks c := by
    unfold roundToks; rw [BI.bigSep_map, BI.bigSep_univ_prod]
    exact bigSep_congr fun c _ => by unfold toks; rw [BI.bigSep_univ_sum]; rfl
  iintro HX
  imod (Rounds.fund ER (Rd m) roundCells roundToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Deal; simp only [bigSep_sep']
  isplitl [Hst]; · iexact Hst
  isplitl [Hat Hr]
  · isplitl [Hat]; · iexact Hat
    iexact Hr
  iexact Htok

/-- Opening a device's counters. -/
theorem core_alloc :
    iprop(Pipeline.ownSems0 (Ix := Unit) (Name := ℕ) (U := UU) (Lvl := ℕ) (Val := Elt F) (τ := τ) osem c ∗ unscopedSems0 c ∗ Deal m c)
      ⊢ |={Set.univ}=> iprop((bigSep Finset.univ fun k : KC => iprop(∃ κ : ℕ, cellInv ER (Rd m) κ (kcell (c, k))))
          ∗ (bigSep Finset.univ fun k : KC => iprop(atPos ER (kcell (c, k)) 0 ∅ 0 ∗ reached ER (kcell (c, k)) 0)) ∗ toks (F := F) c ∗ loneSems (F := F) c) := by
  unfold Deal
  iintro ⟨Hos, Hus, Hst, Hat, Htok⟩
  ihave H := (sems0_eq (F := F) c) $$ [Hos Hus]
  · isplitl [Hos]; · iexact Hos
    iexact Hus
  icases H with ⟨Hv, Hl⟩
  imod (show iprop((bigSep Finset.univ fun k : KC => semVal (kcell (c, k)) 0) ∗ bigSep Finset.univ fun k : KC => roundState ER (Rd m) (kcell (c, k)) 0)
      ⊢ (|={Set.univ}=> bigSep Finset.univ fun k : KC => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hl

/-- Every shared counter is open. -/
def records : sProp 𝕄 :=
  bigSep Finset.univ fun ck : Dev nD × KC => iprop(cellInv ER (Rd m) (K ck) (kcell ck) ∗ reached ER (kcell ck) 0)
instance records_persistent : BI.Persistent (records m K) := by unfold records; infer_instance

/-- What is device `c`'s alone. -/
def mine : sProp 𝕄 :=
  iprop((atPos ER (barCell c) 0 ∅ 0 ∗ (bigSep Finset.univ fun t : Fin 16 => atPos ER (sendCell t c) 0 ∅ 0) ∗ bigSep Finset.univ fun t : Fin 16 => atPos ER (recvCell t c) 0 ∅ 0)
    ∗ payToks (F := F) c ∗ loneSems (F := F) c)
def Dealt : sProp 𝕄 := iprop(∃ K, records m K ∗ mine (F := F) c)

theorem sep_swap {I J : Type} [Fintype I] [Fintype J] (Φ : I → J → sProp 𝕄) :
    (bigSep Finset.univ fun i => bigSep Finset.univ fun j => Φ i j) = bigSep Finset.univ fun j => bigSep Finset.univ fun i => Φ i j := by
  rw [← BI.bigSep_univ_prod fun x : I × J => Φ x.1 x.2, ← BI.bigSep_univ_prod fun x : J × I => Φ x.2 x.1, BI.bigSep_univ_equiv (Equiv.prodComm J I)]
  rfl

theorem around : (bigSep Finset.univ fun c : Dev nD => (toks c : sProp 𝕄)) ⊢ bigSep Finset.univ fun c : Dev nD => payToks c := by
  unfold toks payToks
  simp only [sep_ends]
  rw [bigSep_sep', bigSep_sep', bigSep_sep', bigSep_sep']
  have h1 : (bigSep Finset.univ fun c : Dev nD => bigSep Finset.univ fun k : Fin 6 => (dutyTok ER (barCell c) 0 k : sProp 𝕄))
      = bigSep Finset.univ fun c : Dev nD => bigSep Finset.univ fun k : Fin 6 => dutyTok ER (barCell (sigTo k c)) 0 k := by
    rw [sep_swap]
    refine Eq.trans (bigSep_congr fun k _ => BI.bigSep_univ_equiv (sigEquiv k) _) ?_
    rw [sep_swap]
    rfl
  have h2 : (bigSep Finset.univ fun c : Dev nD => bigSep Finset.univ fun t : Fin 16 => (dutyTok ER (kcell (c, some (true, t))) 0 0 : sProp 𝕄))
      = bigSep Finset.univ fun c : Dev nD => bigSep Finset.univ fun t : Fin 16 => dutyTok ER (recvCell t (dst t c)) 0 0 := by
    rw [sep_swap]
    refine Eq.trans (bigSep_congr fun t _ => BI.bigSep_univ_equiv (dstEquiv t) _) ?_
    rw [sep_swap]
    rfl
  rw [h1, h2]
  exact BI.Entails.refl _

theorem regroup :
    (bigSep Finset.univ fun c : Dev nD => iprop((bigSep Finset.univ fun k : KC => iprop(∃ κ : ℕ, cellInv ER (Rd m) κ (kcell (c, k))))
          ∗ (bigSep Finset.univ fun k : KC => iprop(atPos ER (kcell (c, k)) 0 ∅ 0 ∗ reached ER (kcell (c, k)) 0)) ∗ toks (F := F) c ∗ loneSems (F := F) c) : sProp 𝕄)
      ⊢ bigSep Finset.univ (Dealt m) := by
  rw [bigSep_sep', bigSep_sep', bigSep_sep', ← BI.bigSep_univ_prod (fun ck : Dev nD × KC => iprop(∃ κ : ℕ, cellInv ER (Rd m) κ (kcell ck))),
    bigSep_congr (s := Finset.univ) (fun (c : Dev nD) _ => bigSep_sep' Finset.univ (fun k : KC => (atPos ER (kcell (c, k)) 0 ∅ 0 : sProp 𝕄)) (fun k => reached ER (kcell (c, k)) 0)),
    bigSep_sep', ← BI.bigSep_univ_prod (fun ck : Dev nD × KC => (reached ER (kcell ck) 0 : sProp 𝕄))]
  iintro ⟨HI, ⟨Hat, #HR⟩, Htok, Hl⟩
  ihave HK := (BI.bigSep_exists_pi Finset.univ (fun (ck : Dev nD × KC) (κ : ℕ) => (cellInv ER (Rd m) κ (kcell ck) : sProp 𝕄))) $$ HI
  icases HK with ⟨%K, #HI⟩
  ihave Htk := (around (F := F)) $$ Htok
  have hd : ∀ c ∈ (Finset.univ : Finset (Dev nD)), iprop(records m K ∗ mine (F := F) c) ⊢ Dealt m c := fun c _ => by
    unfold Dealt
    iintro H
    iexists K; iexact H
  iapply (BI.bigSep_with_persistent (R := records m K) hd)
  isplitr
  · unfold records; rw [bigSep_sep']
    isplitr; · iexact HI
    iexact HR
  have hm : iprop((bigSep Finset.univ fun c : Dev nD => bigSep Finset.univ fun k : KC => (atPos ER (kcell (c, k)) 0 ∅ 0 : sProp 𝕄))
      ∗ (bigSep Finset.univ fun c : Dev nD => payToks (F := F) c) ∗ bigSep Finset.univ fun c : Dev nD => loneSems (F := F) c)
      ⊢ bigSep Finset.univ fun c : Dev nD => mine (F := F) c := by
    rw [← bigSep_sep', ← bigSep_sep']
    refine bigSep_mono fun c _ => ?_
    unfold mine
    rw [sep_kc, sep_ends]
    exact BI.Entails.refl _
  iapply hm
  isplitl [Hat]; · iexact Hat
  isplitl [Htk]; · iexact Htk
  iexact Hl

theorem glob : (bigSep Finset.univ fun c => iprop(Pipeline.ownSems0 (Ix := Unit) (Name := ℕ) (U := UU) (Lvl := ℕ) (Val := Elt F) (τ := τ) osem c ∗ unscopedSems0 c ∗ Deal m c) : sProp 𝕄)
    ⊢ |={Set.univ}=> bigSep Finset.univ (Dealt m) :=
  ((bigSep_mono fun c _ => core_alloc m c).trans (bigSep_fupd _ _)).trans (BI.fupd_mono (regroup m))

/-! ## The credits -/

/-- The credit of the payments to device `c`'s counters. -/
def due (c : Dev nD) : CellTallies nD τ sig Unit := (∑ t : Fin 16, tallyAt (recvCell t c) () N) + ∑ k : Fin 6, tallyAt (barCell c) () 1

theorem owe_all (c : Dev nD) : owe 0 c = (∑ t : Fin 16, tallyAt (recvCell t (dst t c)) () N) + ∑ k : Fin 6, tallyAt (barCell (sigTo k c)) () 1 := by
  unfold owe oweS oweB
  rw [Finset.filter_true_of_mem fun _ _ => Nat.zero_le _, Finset.filter_true_of_mem fun _ _ => Nat.zero_le _]

theorem owe_sum : (∑ c : Dev nD, owe 0 c) = ∑ c : Dev nD, due c := by
  simp only [owe_all, due, Finset.sum_add_distrib]
  congr 1
  · refine Finset.sum_comm.trans ((Finset.sum_congr rfl fun t _ => ?_).trans Finset.sum_comm)
    exact Equiv.sum_comp (dstEquiv t) fun c => (tallyAt (recvCell t c) () N : CellTallies nD τ sig Unit)
  · refine Finset.sum_comm.trans ((Finset.sum_congr rfl fun k _ => ?_).trans Finset.sum_comm)
    exact Equiv.sum_comp (sigEquiv k) fun c => (tallyAt (barCell c) () 1 : CellTallies nD τ sig Unit)

theorem due_own (d : Dev nD) (g : GSem nD τ sig) (h : due d g ≠ 0) : g.1 = (d : Thread nD τ) := by
  by_contra hg
  refine h ?_
  unfold due
  rw [Pi.add_apply, Finset.sum_apply, Finset.sum_apply]
  have h1 : ∀ t ∈ (Finset.univ : Finset (Fin 16)), (tallyAt (recvCell t d) () N : CellTallies nD τ sig Unit) g = 0 := fun t _ => tallyAt_ne_cell (fun h => hg (congrArg Prod.fst h)) _ _
  have h2 : ∀ k ∈ (Finset.univ : Finset (Fin 6)), (tallyAt (barCell d) () 1 : CellTallies nD τ sig Unit) g = 0 := fun k _ => tallyAt_ne_cell (fun h => hg (congrArg Prod.fst h)) _ _
  rw [Finset.sum_eq_zero h1, Finset.sum_eq_zero h2, add_zero]

theorem cred_sum {I : Type} [DecidableEq I] (s : Finset I) (D : I → CellTallies nD τ sig Unit) :
    (cred (∑ i ∈ s, D i) : sProp 𝕄) ⊢ bigSep s fun i => cred (D i) := by
  induction s using Finset.induction_on with
  | empty => rw [BI.bigSep_empty]; iintro H; iempintro
  | insert i s hi ih =>
    rw [Finset.sum_insert hi, BI.bigSep_insert hi]
    exact (cred_add _ _).1.trans (sep_mono_right ih)

theorem creds : (Pipeline.launchCred (fun c => owe 0 c) c : sProp 𝕄)
    ⊢ iprop(cred (tallyAt (barCell c) () 6) ∗ bigSep Finset.univ fun t : Fin 16 => cred (tallyAt (recvCell t c) () N)) := by
  rw [Pipeline.launchCred_of_sum _ due owe_sum due_own c]
  unfold due
  refine (cred_add _ _).1.trans ?_
  iintro ⟨Hr, Hb⟩
  isplitl [Hb]
  · have h6 : (∑ k : Fin 6, tallyAt (barCell c) () 1 : CellTallies nD τ sig Unit) = tallyAt (barCell c) () 6 := by
      simp only [Fin.sum_univ_six, tallyAt_add]
    rw [← h6]; iexact Hb
  iapply (cred_sum (F := F) Finset.univ fun t : Fin 16 => tallyAt (recvCell t c) () N); iexact Hr

end Cert.KernelIdeal.Run

end
-- ==== Proof.Ends.lean ====
/-
# Before and after the body

What a device holds when the call starts is what its body takes; what the body leaves is every counter at zero, every
buffer whole, the arguments as they were and the result in place.
-/
module

public import proofs.«01_k».proof.Proof.Start

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-! ## Entering the body -/

theorem sep6 (Φ : Fin 6 → sProp 𝕄) : bigSep Finset.univ Φ = iprop(Φ 0 ∗ Φ 1 ∗ Φ 2 ∗ Φ 3 ∗ Φ 4 ∗ Φ 5) := by
  refine (bigSep_univ_eq_bigSepL [(0 : Fin 6), 1, 2, 3, 4, 5] (by decide) (by decide) Φ).trans ?_
  simp only [bigSepL_cons_cons, bigSepL_singleton]
  rfl
theorem sep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  refine (bigSep_univ_eq_bigSepL [(0 : Fin 9), 1, 2, 3, 4, 5, 6, 7, 8] (by decide) (by decide) Φ).trans ?_
  simp only [bigSepL_cons_cons, bigSepL_singleton]
  rfl

/-- A device's places go to the devices whose transfers land there. -/
theorem places : (bigSep Finset.univ fun t : Fin 16 => landAt (F := F) t c (got t c)) ⊢ bigSep Finset.univ fun k : Fin 6 => barPay (F := F) (sigTo k c) k := by
  have h : (bigSep Finset.univ fun t : Fin 16 => landAt (F := F) t c (got t c))
      = bigSep Finset.univ fun k : Fin 6 => bigSep (handed k).toFinset fun t => landAt (F := F) t c (got t c) := by
    rw [handed_cover, BI.bigSep_biUnion_eq _ _ _ handed_disjoint]
  rw [h]
  refine bigSep_mono fun k _ => ?_
  unfold barPay
  refine bigSep_mono fun t ht => ?_
  have hs : dst t (sigTo k c) = c := by rw [← src_of_handed k t (List.mem_toFinset.mp ht) c, dst_src]
  unfold land
  by_cases h0 : t = 0
  · subst h0
    rw [hs]
    unfold landAt
    rw [if_pos rfl, if_pos rfl]
    exact BI.Entails.refl _
  · rw [← got_dst t h0, hs]
    exact BI.Entails.refl _

/-- The whole gathered buffer and the hop's second slot: the own piece's place stays, the others are handed over. -/
theorem places_of : iprop((∃ f, allP (F := F) c Finset.univ fullShare f) ∗ slotAny (F := F) c 1)
    ⊢ iprop((∃ f, allP (F := F) c (pset (pc c 0)) fullShare f) ∗ bigSep Finset.univ fun k : Fin 6 => barPay (F := F) (sigTo k c) k) := by
  iintro ⟨⟨%f, H⟩, Hs⟩
  ihave H := (Entails.of_eq ((all_split c f).trans (bigSep_univ_at _ (0 : Fin 16)))) $$ H
  icases H with ⟨H0, H⟩
  isplitl [H0]; · iexists f; iexact H0
  iapply (places c)
  rw [bigSep_univ_at (fun t : Fin 16 => landAt (F := F) t c (got t c)) 0]
  isplitl [Hs]
  · unfold landAt slotAny; rw [if_pos rfl]; iexact Hs
  have hm : (bigSep (Finset.univ.erase (0 : Fin 16)) fun t => allP c (pset (got t c)) fullShare f) ⊢ bigSep (Finset.univ.erase (0 : Fin 16)) fun t => landAt (F := F) t c (got t c) :=
    bigSep_mono fun t ht => by
      have hl : allP c (pset (got t c)) fullShare f ⊢ landAt (F := F) t c (got t c) := by
        unfold landAt
        rw [if_neg (Finset.ne_of_mem_erase ht)]
        iintro H
        iexists f; iexact H
      exact hl
  iapply hm
  iexact H

abbrev outArr (f : (main_v1 : Ref sig .tc).ty.Contents (Elt F)) : sProp 𝕄 := (outM.view.loc (c : Thread nD τ)) ↦[Finset.univ]{fullShare} f

/-- What a device holds when the call starts, but for its own buffers. -/
def start : sProp 𝕄 :=
  iprop(Dealt m c ∗ cred (tallyAt (barCell c) () 6) ∗ (bigSep Finset.univ fun t : Fin 16 => cred (tallyAt (recvCell t c) () N)) ∗ levAts L lv
    ∗ arr0 m c ∗ arr1 m c ∗ arr2 m c ∗ outArr c (m ((c : Thread nD τ).loc main_v1)))
/-- The call's own buffers. -/
def bufs : sProp 𝕄 :=
  iprop(stageAny (F := F) c ∗ (∃ f, commP (F := F) c Finset.univ fullShare f) ∗ (∃ f, allP (F := F) c Finset.univ fullShare f)
    ∗ ∃ f, (stripM.view.loc (c : Thread nD τ)) ↦[Finset.univ]{fullShare} f)
/-- The counters nothing uses. -/
def idle : sProp 𝕄 := bigSep (Finset.univ : Finset (Fin 6)) fun i => semVal ((c : Thread nD τ), lone (Fin.natAdd 3 i)) 0

theorem lone_eq : loneSems (F := F) c = iprop(semVal (ldCell c) 0 ∗ semVal (stsCell c 0) 0 ∗ semVal (stsCell c 1) 0 ∗ idle (F := F) c) := by
  unfold loneSems idle
  rw [sep9, sep6]
  rfl

theorem enter : iprop(start m c ∗ bufs (F := F) c ∗ gamP m c ∗ ow c (owe 0 c)) ⊢ iprop((∃ K, ctx m K) ∗ bodyIn m c ∗ idle (F := F) c) := by
  unfold start bufs Dealt mine payToks bodyIn
  rw [lone_eq]
  iintro ⟨⟨⟨%K, #Hrec, ⟨HatB, HatS, HatR⟩, ⟨HtB, HtS, HtR⟩, Hzld, Hzt0, Hzt1, Hidle⟩, HcB, HcR, #Hlev, HA0, HA1, HA2, HOUT⟩, ⟨Hstg, ⟨%fc, Hcomm⟩, Hall, ⟨%fs, Hstrip⟩⟩, Hgam, HB0⟩
  isplitr
  · iexists K
    unfold ctx records
    isplitr; · iexact Hrec
    iexact Hlev
  isplitr [Hidle]
  swap; · iexact Hidle
  ihave H := (comm_split c fc).1 $$ Hcomm
  icases H with ⟨Hs0, Hs1⟩
  ihave Hsa0 := (show commP c (cset 0) fullShare fc ⊢ slotAny (F := F) c 0 from by unfold slotAny; iintro H; iexists fc; iexact H) $$ Hs0
  ihave Hsa1 := (show commP c (cset 1) fullShare fc ⊢ slotAny (F := F) c 1 from by unfold slotAny; iintro H; iexists fc; iexact H) $$ Hs1
  ihave H := (strip_split c fs).1 $$ Hstrip
  icases H with ⟨Hs0, Hs1⟩
  ihave Hta0 := (show stripPt c 0 fs ⊢ stripAny (F := F) c 0 from by unfold stripAny; iintro H; iexists fs; iexact H) $$ Hs0
  ihave Hta1 := (show stripPt c 1 fs ⊢ stripAny (F := F) c 1 from by unfold stripAny; iintro H; iexists fs; iexact H) $$ Hs1
  ihave H := (places_of c) $$ [Hall Hsa1]
  · isplitl [Hall]; · iexact Hall
    iexact Hsa1
  icases H with ⟨Hany0, Hbp⟩
  ihave H := (Entails.of_eq (sep6 fun k : Fin 6 => barPay (F := F) (sigTo k c) k)) $$ Hbp
  icases H with ⟨Hbp0, Hbp1, Hbp2, Hbp3, Hbp4, Hbp5⟩
  ihave H := (Entails.of_eq (sep6 fun k : Fin 6 => (dutyTok ER (barCell (sigTo k c)) 0 k : sProp 𝕄))) $$ HtB
  icases H with ⟨Htok0, Htok1, Htok2, Htok3, Htok4, Htok5⟩
  ihave Hbar := (show iprop(cred (tallyAt (barCell c) () 6) ∗ atPos ER (barCell c) 0 ∅ 0) ⊢ barKit (F := F) c from BI.Entails.refl _) $$ [HcB HatB]
  · isplitl [HcB]; · iexact HcB
    iexact HatB
  ihave Hpre := (show iprop((bigSep Finset.univ fun t : Fin 16 => dutyTok ER (sendCell t c) 0 0) ∗ (bigSep Finset.univ fun t : Fin 16 => dutyTok ER (recvCell t (dst t c)) 0 0)
      ∗ bigSep Finset.univ fun t : Fin 16 => atPos ER (sendCell t c) 0 ∅ 0) ⊢ preKits (F := F) c from by
        unfold preKits; rw [← bigSep_sep', ← bigSep_sep']; exact BI.Entails.refl _) $$ [HtS HtR HatS]
  · isplitl [HtS]; · iexact HtS
    isplitl [HtR]; · iexact HtR
    iexact HatS
  ihave H := (show iprop((bigSep Finset.univ fun t : Fin 16 => cred (tallyAt (recvCell t c) () N)) ∗ bigSep Finset.univ fun t : Fin 16 => atPos ER (recvCell t c) 0 ∅ 0)
      ⊢ bigSep Finset.univ fun t : Fin 16 => recvKit (F := F) t c from by rw [← bigSep_sep']; exact BI.Entails.refl _) $$ [HcR HatR]
  · isplitl [HcR]; · iexact HcR
    iexact HatR
  ihave H := (Entails.of_eq (sep16 fun t : Fin 16 => recvKit (F := F) t c)) $$ H
  icases H with ⟨Hrk0, Hrk1, Hrk2, Hrk3, Hrk4, Hrk5, Hrk6, Hrk7, Hrk8, Hrk9, Hrk10, Hrk11, Hrk12, Hrk13, Hrk14, Hrk15⟩
  ihave H := (Entails.of_eq (out_eq c (m ((c : Thread nD τ).loc main_v1)))) $$ HOUT
  icases H with ⟨Ho, Hx, Hy, Hd⟩
  ihave Hoao := (show outPt c (qr c) (m ((c : Thread nD τ).loc main_v1)) ⊢ outAny (F := F) c (qr c) from by unfold outAny; iintro H; iexists _; iexact H) $$ Ho
  ihave Hoax := (show outPt c (qr (xn c)) (m ((c : Thread nD τ).loc main_v1)) ⊢ outAny (F := F) c (qr (xn c)) from by unfold outAny; iintro H; iexists _; iexact H) $$ Hx
  ihave Hoay := (show outPt c (qr (yn c)) (m ((c : Thread nD τ).loc main_v1)) ⊢ outAny (F := F) c (qr (yn c)) from by unfold outAny; iintro H; iexists _; iexact H) $$ Hy
  ihave Hoad := (show outPt c (qr (xn (yn c))) (m ((c : Thread nD τ).loc main_v1)) ⊢ outAny (F := F) c (qr (xn (yn c))) from by unfold outAny; iintro H; iexists _; iexact H) $$ Hd
  isplitl [HA0]; · iexact HA0
  isplitl [Hstg]; · iexact Hstg
  isplitl [Hzld]; · iexact Hzld
  isplitl [HB0]; · iexact HB0
  isplitl [Hsa0]; · iexact Hsa0
  isplitl [Htok0]; · iexact Htok0
  isplitl [Hbp0]; · iexact Hbp0
  isplitl [Htok1]; · iexact Htok1
  isplitl [Hbp1]; · iexact Hbp1
  isplitl [Htok2]; · iexact Htok2
  isplitl [Hbp2]; · iexact Hbp2
  isplitl [Htok3]; · iexact Htok3
  isplitl [Hbp3]; · iexact Hbp3
  isplitl [Htok4]; · iexact Htok4
  isplitl [Hbp4]; · iexact Hbp4
  isplitl [Htok5]; · iexact Htok5
  isplitl [Hbp5]; · iexact Hbp5
  isplitl [Hbar]; · iexact Hbar
  isplitl [Hpre]; · iexact Hpre
  isplitl [HA1]; · iexact HA1
  isplitl [Hrk0]; · iexact Hrk0
  isplitl [HA2]; · iexact HA2
  isplitl [Hgam]; · iexact Hgam
  isplitl [Hany0]; · iexact Hany0
  isplitl [Hrk4]; · iexact Hrk4
  isplitl [Hrk7]; · iexact Hrk7
  isplitl [Hrk10]; · iexact Hrk10
  isplitl [Hta0]; · iexact Hta0
  isplitl [Hoao]; · iexact Hoao
  isplitl [Hzt0]; · iexact Hzt0
  isplitl [Hrk2]; · iexact Hrk2
  isplitl [Hrk6]; · iexact Hrk6
  isplitl [Hrk1]; · iexact Hrk1
  isplitl [Hrk5]; · iexact Hrk5
  isplitl [Hrk8]; · iexact Hrk8
  isplitl [Hrk11]; · iexact Hrk11
  isplitl [Hta1]; · iexact Hta1
  isplitl [Hoax]; · iexact Hoax
  isplitl [Hzt1]; · iexact Hzt1
  isplitl [Hrk9]; · iexact Hrk9
  isplitl [Hrk12]; · iexact Hrk12
  isplitl [Hoay]; · iexact Hoay
  isplitl [Hrk13]; · iexact Hrk13
  isplitl [Hrk14]; · iexact Hrk14
  isplitl [Hrk15]; · iexact Hrk15
  isplitl [Hrk3]; · iexact Hrk3
  iexact Hoad

/-! ## Leaving it -/

/-- What the call leaves: its counters and buffers, the arguments and the result. -/
def finish : sProp 𝕄 :=
  iprop((unscopedSems0 c ∗ arr0 m c ∗ arr1 m c ∗ arr2 m c ∗ outArr c (Out m))
    ∗ Pipeline.ownSems0 (Ix := Unit) (Name := ℕ) (U := UU) (Lvl := ℕ) (Val := Elt F) (τ := τ) osem c ∗ bufs (F := F) c)

theorem all_any : (bigSep Finset.univ fun t : Fin 16 => pp m c t fullShare) ⊢ iprop(∃ f, allP (F := F) c Finset.univ fullShare f) := by
  iintro H
  iexists (G m)
  iapply (Entails.of_eq (all_split c (G m)).symm)
  iexact H

theorem leave : iprop(bodyOut m c ∗ idle (F := F) c) ⊢ iprop(finish m c ∗ gamP m c ∗ ow c 0) := by
  unfold bodyOut finish bufs
  rw [ownSems0_eq, unscopedSems0_eq, lone_eq, sep_ends, sep16, sep16, ← oweS_last c]
  iintro ⟨⟨HA0, Hzb, HA1, Hzs0, Hzr0, Hsa0, HA2, Hzld, Hgam, Hsa1, Hstg, Hzs4, Hsp4, Hzr4, HRR4, Hzs7, Hsp7, Hzr7, HRR7, Hzs10, Hsp10, Hzr10, HLL10, HRR10, HK0, HK4, HK7, HK10, Hzr2, Hzr6, Hzr1, Hzr5, Hzr8, Hzr11, HL1, HL5, HL11, HK1, HK5, HK8, HK11, Hzr9, Hzr12, Hodo, HL9, HL12, HK2, HK6, HK9, HK12, Hzr13, Hzr14, Hzr15, Hzr3, Hodx, HL13, HL14, HL15, HL3, HK13, HK14, HK15, HK3, Hodd, Hta1, Hzt1, Hody, Hta0, Hzt0, Hzs1, Hsp1, Hzs2, Hsp2, Hzs3, Hsp3, Hzs5, Hsp5, Hzs6, Hsp6, Hzs8, Hsp8, Hzs9, Hsp9, Hzs11, Hsp11, Hzs12, Hsp12, Hzs13, Hsp13, Hzs14, Hsp14, HO16, Hzs15, Hsp15⟩, Hidle⟩
  ihave Hg0 := ((split_own m c).2) $$ [HK0 Hsp4 Hsp1 Hsp2 Hsp3]
  · isplitl [HK0]; · iexact HK0
    isplitl [Hsp4]; · iexact Hsp4
    isplitl [Hsp1]; · iexact Hsp1
    isplitl [Hsp2]; · iexact Hsp2
    iexact Hsp3
  ihave Hr4 := ((split_4 m c).2) $$ [HK4 Hsp7 Hsp5 Hsp6 HRR4]
  · isplitl [HK4]; · iexact HK4
    isplitl [Hsp7]; · iexact Hsp7
    isplitl [Hsp5]; · iexact Hsp5
    isplitl [Hsp6]; · iexact Hsp6
    iexact HRR4
  ihave Hg4 := (Entails.of_eq (recv_eq m c 4 (by decide))) $$ Hr4
  ihave Hr7 := ((split_7 m c).2) $$ [HK7 Hsp10 Hsp8 Hsp9 HRR7]
  · isplitl [HK7]; · iexact HK7
    isplitl [Hsp10]; · iexact Hsp10
    isplitl [Hsp8]; · iexact Hsp8
    isplitl [Hsp9]; · iexact Hsp9
    iexact HRR7
  ihave Hg7 := (Entails.of_eq (recv_eq m c 7 (by decide))) $$ Hr7
  ihave Hr10 := ((split_10 m c).2) $$ [HK10 HLL10 Hsp11 Hsp12 HRR10]
  · isplitl [HK10]; · iexact HK10
    isplitl [HLL10]; · iexact HLL10
    isplitl [Hsp11]; · iexact Hsp11
    isplitl [Hsp12]; · iexact Hsp12
    iexact HRR10
  ihave Hg10 := (Entails.of_eq (recv_eq m c 10 (by decide))) $$ Hr10
  ihave Hr2 := ((split_2 m c).2) $$ [Hsp13 HK2]
  · isplitl [Hsp13]; · iexact Hsp13
    iexact HK2
  ihave Hg2 := (Entails.of_eq (recv_eq m c 2 (by decide))) $$ Hr2
  ihave Hr6 := ((split_6 m c).2) $$ [Hsp14 HK6]
  · isplitl [Hsp14]; · iexact Hsp14
    iexact HK6
  ihave Hg6 := (Entails.of_eq (recv_eq m c 6 (by decide))) $$ Hr6
  ihave Hr8 := ((split_8 m c).2) $$ [Hsp15 HK8]
  · isplitl [Hsp15]; · iexact Hsp15
    iexact HK8
  ihave Hg8 := (Entails.of_eq (recv_eq m c 8 (by decide))) $$ Hr8
  ihave Hr1 := ((split_rest m c 1 (by decide)).2) $$ [HL1 HK1]
  · isplitl [HL1]; · iexact HL1
    iexact HK1
  ihave Hg1 := (Entails.of_eq (recv_eq m c 1 (by decide))) $$ Hr1
  ihave Hr5 := ((split_rest m c 5 (by decide)).2) $$ [HL5 HK5]
  · isplitl [HL5]; · iexact HL5
    iexact HK5
  ihave Hg5 := (Entails.of_eq (recv_eq m c 5 (by decide))) $$ Hr5
  ihave Hr11 := ((split_rest m c 11 (by decide)).2) $$ [HL11 HK11]
  · isplitl [HL11]; · iexact HL11
    iexact HK11
  ihave Hg11 := (Entails.of_eq (recv_eq m c 11 (by decide))) $$ Hr11
  ihave Hr9 := ((split_rest m c 9 (by decide)).2) $$ [HL9 HK9]
  · isplitl [HL9]; · iexact HL9
    iexact HK9
  ihave Hg9 := (Entails.of_eq (recv_eq m c 9 (by decide))) $$ Hr9
  ihave Hr12 := ((split_rest m c 12 (by decide)).2) $$ [HL12 HK12]
  · isplitl [HL12]; · iexact HL12
    iexact HK12
  ihave Hg12 := (Entails.of_eq (recv_eq m c 12 (by decide))) $$ Hr12
  ihave Hr13 := ((split_rest m c 13 (by decide)).2) $$ [HL13 HK13]
  · isplitl [HL13]; · iexact HL13
    iexact HK13
  ihave Hg13 := (Entails.of_eq (recv_eq m c 13 (by decide))) $$ Hr13
  ihave Hr14 := ((split_rest m c 14 (by decide)).2) $$ [HL14 HK14]
  · isplitl [HL14]; · iexact HL14
    iexact HK14
  ihave Hg14 := (Entails.of_eq (recv_eq m c 14 (by decide))) $$ Hr14
  ihave Hr15 := ((split_rest m c 15 (by decide)).2) $$ [HL15 HK15]
  · isplitl [HL15]; · iexact HL15
    iexact HK15
  ihave Hg15 := (Entails.of_eq (recv_eq m c 15 (by decide))) $$ Hr15
  ihave Hr3 := ((split_rest m c 3 (by decide)).2) $$ [HL3 HK3]
  · isplitl [HL3]; · iexact HL3
    iexact HK3
  ihave Hg3 := (Entails.of_eq (recv_eq m c 3 (by decide))) $$ Hr3
  ihave Hall := ((Entails.of_eq (sep16 fun t : Fin 16 => pp m c t fullShare).symm).trans (all_any m c)) $$ [Hg0 Hg1 Hg2 Hg3 Hg4 Hg5 Hg6 Hg7 Hg8 Hg9 Hg10 Hg11 Hg12 Hg13 Hg14 Hg15]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [Hg10]; · iexact Hg10
    isplitl [Hg11]; · iexact Hg11
    isplitl [Hg12]; · iexact Hg12
    isplitl [Hg13]; · iexact Hg13
    isplitl [Hg14]; · iexact Hg14
    iexact Hg15
  ihave Hcomm := (comm_join c) $$ [Hsa0 Hsa1]
  · isplitl [Hsa0]; · iexact Hsa0
    iexact Hsa1
  ihave Hstrip := (strip_join c) $$ [Hta0 Hta1]
  · isplitl [Hta0]; · iexact Hta0
    iexact Hta1
  ihave HOUT := (Entails.of_eq (out_eq c (Out m)).symm) $$ [Hodo Hodx Hody Hodd]
  · isplitl [Hodo]; · iexact Hodo
    isplitl [Hodx]; · iexact Hodx
    isplitl [Hody]; · iexact Hody
    iexact Hodd
  isplitr [Hgam HO16]
  · isplitl [Hzb HA0 HA1 HA2 HOUT]
    · isplitl [Hzb]; · iexact Hzb
      isplitl [HA0]; · iexact HA0
      isplitl [HA1]; · iexact HA1
      isplitl [HA2]; · iexact HA2
      iexact HOUT
    isplitr [Hstg Hcomm Hall Hstrip]
    · isplitr [Hzld Hzt0 Hzt1 Hidle]
      · isplitl [Hzs0 Hzs1 Hzs2 Hzs3 Hzs4 Hzs5 Hzs6 Hzs7 Hzs8 Hzs9 Hzs10 Hzs11 Hzs12 Hzs13 Hzs14 Hzs15]
        · isplitl [Hzs0]; · iexact Hzs0
          isplitl [Hzs1]; · iexact Hzs1
          isplitl [Hzs2]; · iexact Hzs2
          isplitl [Hzs3]; · iexact Hzs3
          isplitl [Hzs4]; · iexact Hzs4
          isplitl [Hzs5]; · iexact Hzs5
          isplitl [Hzs6]; · iexact Hzs6
          isplitl [Hzs7]; · iexact Hzs7
          isplitl [Hzs8]; · iexact Hzs8
          isplitl [Hzs9]; · iexact Hzs9
          isplitl [Hzs10]; · iexact Hzs10
          isplitl [Hzs11]; · iexact Hzs11
          isplitl [Hzs12]; · iexact Hzs12
          isplitl [Hzs13]; · iexact Hzs13
          isplitl [Hzs14]; · iexact Hzs14
          iexact Hzs15
        isplitl [Hzr0]; · iexact Hzr0
        isplitl [Hzr1]; · iexact Hzr1
        isplitl [Hzr2]; · iexact Hzr2
        isplitl [Hzr3]; · iexact Hzr3
        isplitl [Hzr4]; · iexact Hzr4
        isplitl [Hzr5]; · iexact Hzr5
        isplitl [Hzr6]; · iexact Hzr6
        isplitl [Hzr7]; · iexact Hzr7
        isplitl [Hzr8]; · iexact Hzr8
        isplitl [Hzr9]; · iexact Hzr9
        isplitl [Hzr10]; · iexact Hzr10
        isplitl [Hzr11]; · iexact Hzr11
        isplitl [Hzr12]; · iexact Hzr12
        isplitl [Hzr13]; · iexact Hzr13
        isplitl [Hzr14]; · iexact Hzr14
        iexact Hzr15
      isplitl [Hzld]; · iexact Hzld
      isplitl [Hzt0]; · iexact Hzt0
      isplitl [Hzt1]; · iexact Hzt1
      iexact Hidle
    isplitl [Hstg]; · iexact Hstg
    isplitl [Hcomm]; · iexact Hcomm
    isplitl [Hall]; · iexact Hall
    iexact Hstrip
  isplitl [Hgam]; · iexact Hgam
  iexact HO16

end Cert.KernelIdeal.Run

end
-- ==== Proof.Run.lean ====
/-
# The run

The body carries a device from what it holds when the call starts to what the call leaves; the launch of all sixteen
devices follows: every execution ends with the result in place on each of them.
-/
module

public import proofs.«01_k».proof.Proof.Ends
public import Idealize.ShloMosaic.Lib.Pipeline.CollectiveSegs

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers
open Idealize.ShloMosaic.Tactic

variable {F : FTy → Type} [FloatOps F]

local notation "𝕄" => MT nD τ sig Unit (Elt F) ℕ UU ℕ

variable (m : (ℓ : Loc nD τ sig) → Buf (Elt F) ℓ) (K : Dev nD × KC → ℕ) (c : Dev nD)

theorem body_all (Q : PUnit → sProp 𝕄) : iprop(start m c ∗ bufs (F := F) c ∗ gamP m c ∗ ow c (owe 0 c))
    ⊢ iprop((iprop(finish m c ∗ gamP m c ∗ ow c 0) -∗ Q ⟨⟩) -∗ W0 c (cc0_body ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) Q) := by
  iintro H HQ
  ihave H := (enter m c) $$ H
  icases H with ⟨⟨%K, Hc⟩, Hin, Hidle⟩
  ihave Hr := (body_run m K c Q) $$ [Hc Hin]
  · isplitl [Hc]; · iexact Hc
    iexact Hin
  iapply Hr
  iintro Hout
  iapply HQ
  iapply (leave m c)
  isplitl [Hout]; · iexact Hout
  iexact Hidle

variable (ρ : Dev nD → PrngReg)

/-- The memory at launch. -/
def s₀ : MemSt nD τ sig (Elt F) := ⟨m, fun _ => 0, ρ⟩

/-- What the call's one step is framed by: before the body and after it. -/
def Φ₀ : sProp 𝕄 := iprop(start m c ∗ bufs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => a3 m c
  Φ t := match t with
    | ⟨0, _⟩ => Φ₀ m c
    | ⟨_ + 1, _⟩ => finish m c
  q _ := fullShare
  owed t := match t with
    | ⟨0, _⟩ => owe 0 c
    | ⟨_ + 1, _⟩ => 0

theorem share_eq (c : Dev nD) (w : Fin cfg0.W) : (dats m ρ 0 c).share w = fullShare := by unfold Dat.share; split <;> rfl

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- gamma's staging buffer holds gamma. -/
theorem before_eq (d) : (dats m ρ 0 c).before 0 t0_0 d = a3 m c := by
  have h := (show (cfg0.win 0).fetch t0_0 = true from by decide +kernel)
  unfold Dat.before
  rw [if_pos h]
  funext j
  show a3 m c _ = a3 m c j
  refine congrArg _ (funext fun a => Fin.ext ?_)
  fin_cases a
  · show 0 * 1 + 1 * (j 0).val = (j 0).val
    omega
  · show 0 * 2048 + 1 * (j 1).val = (j 1).val
    omega

abbrev held (X : main_arg3.ty.Contents (Elt F)) : sProp 𝕄 :=
  iprop(∃ f : Buf (Elt F) ((c : Thread nD τ).loc cc0_stg0_0), ⌜f = X⌝ ∗ (((c : Thread nD τ).loc cc0_stg0_0) ↦{fullShare} f))

def pre0 : sProp 𝕄 := iprop(Φ₀ m c ∗ (dats m ρ 0 c).owesAt () t0_0.castSucc ∗ ∃ d, held c ((dats m ρ 0 c).before 0 t0_0 d))
def post0 : sProp 𝕄 := iprop(finish m c ∗ (dats m ρ 0 c).owesAt () t0_0.succ ∗ held c (a3 m c))

theorem body_obligation (c : Dev nD) : BodyObligation (dats (F := F) m ρ 0 c) (defs₀ (F := F)) 𝒱₀ () Set.univ := fun t => by
  rw [fin_N0 t, bigSep_W0, bigSep_W0]
  simp only [owns_whole_eq]
  show pre0 m c ρ ⊢ W0 c (cc0_body ringM (Memref.isWhole_whole _) partM (Memref.isWhole_whole _) resM (Memref.isWhole_whole _) gamM (Memref.isWhole_whole _) outM (Memref.isWhole_whole _) stageM (Memref.isWhole_whole _) commM (Memref.isWhole_whole _) allM (Memref.isWhole_whole _) stripM (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) fun _ => post0 m c ρ
  unfold pre0 Φ₀ Dat.owesAt Pipeline.owesWithin
  iintro ⟨⟨Hs, Hb⟩, ⟨%W, %hW, HO⟩, ⟨%d, %f, %hf, Hg⟩⟩
  rw [before_eq] at hf
  subst hf
  ihave Hr := (body_all m c fun _ => post0 m c ρ) $$ [Hs Hb HO Hg]
  · isplitl [Hs]; · iexact Hs
    isplitl [Hb]; · iexact Hb
    isplitl [Hg]; · iexact Hg
    unfold ow
    iexists W
    iexact HO
  iapply Hr
  unfold post0 Dat.owesAt Pipeline.owesWithin ow
  iintro ⟨Hf, Hg, ⟨%W', HO⟩⟩
  isplitl [Hf]; · iexact Hf
  isplitl [HO]
  · iexists W'
    isplitr; · ipureintro; exact fun _ _ => Or.inl trivial
    iexact HO
  iexists (a3 m c)
  isplitr; · ipureintro; rfl
  iexact Hg

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inr ⟨0, rfl⟩
      · exact Or.inl ⟨16, (oweS_last c).symm⟩)

theorem start_intro (c : Dev nD) :
    iprop(Pipeline.unscopedRestP Pipeline.Prefetch.none cfg0.spec c (fun b => m ((c : Thread nD τ).loc b)) ∗ levAts L lv
        ∗ Pipeline.launchCred (fun c => owe 0 c) c ∗ prngReg c (ρ c) ∗ Dealt m c)
      ⊢ |={Set.univ}=> iprop(start m c ∗ emp) := by
  rw [Pipeline.unscopedRestP_none, unscopedRest0_eq]
  iintro ⟨⟨H0, H1, H2, Hv⟩, Hlev, Hcr, -, HG⟩
  ihave Hc := (creds (F := F) c) $$ Hcr
  icases Hc with ⟨HcB, HcR⟩
  imodintro
  unfold start
  isplitl
  · isplitl [HG]; · iexact HG
    isplitl [HcB]; · iexact HcB
    isplitl [HcR]; · iexact HcR
    isplitl [Hlev]; · iexact Hlev
    isplitl [H0]; · iexact H0
    isplitl [H1]; · iexact H1
    isplitl [H2]; · iexact H2
    iexact Hv
  · iempintro

theorem bufs_eq : (Pipeline.scopedRest cfg0.spec c : sProp 𝕄) = bufs (F := F) c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hb⟩
  isplitl [Hs]; · iexact Hs
  iexact Hb

def leaves : sProp 𝕄 := iprop(unscopedSems0 c ∗ arr0 m c ∗ arr1 m c ∗ arr2 m c ∗ outArr c (Out m))

theorem phi1_exit (c : Dev nD) :
    (dats m ρ 0 c).Φ (Fin.last cfg0.N) ⊢ iprop(leaves m c ∗ Pipeline.ownSems0 osem c ∗ Pipeline.scopedRest cfg0.spec c) := by
  rw [show (dats m ρ 0 c).Φ (Fin.last cfg0.N) = finish m c from rfl, bufs_eq]
  exact BI.Entails.refl _

/-- What a device's memory and counters are at the end. -/
def Ends (c : Dev nD) (s : MemSt nD τ sig (Elt F)) : Prop :=
  (∀ sm : SemLoc sig, sm.isScoped .tc = false → s.sem ((c.tc : Thread nD τ), sm) = 0)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_v1) = Out m

theorem ends_intro (c : Dev nD) (s' : _) : iprop(leaves m c ∗ iprop(emp) ∗ SI s') ⊢ |={Set.univ}=> iprop(⌜Ends m c s'.mem⌝ ∗ SI s') := by
  unfold leaves
  iintro ⟨⟨Hu, H0, H1, H2, Hv⟩, -, HSI⟩
  icombine HSI H0 gives %h0
  icombine HSI H1 gives %h1
  icombine HSI H2 gives %h2
  icombine HSI Hv gives %hv
  imod (Pipeline.unscopedSems0_read (X := unscopedSems0 c) (c := c) fupd_intro s') $$ [Hu HSI] with H
  · isplitl [Hu]; · iexact Hu
    iexact HSI
  icases H with ⟨%hs, HSI⟩
  imodintro
  isplitr
  · ipureintro
    exact ⟨hs, funext fun i => h0 i (Finset.mem_univ _), funext fun i => h1 i (Finset.mem_univ _), funext fun i => h2 i (Finset.mem_univ _), funext fun i => hv i (Finset.mem_univ _)⟩
  iexact HSI

set_option maxRecDepth 16384 in
/-- Every execution of the sixteen devices, from any memory with zero counters, ends with the result in place on every
    device, the arguments as they were and every counter at zero. -/
theorem run_main : θ_run defs (onTc (τ := τ) (main (F := F))) ⟨m, fun _ => 0, ρ⟩ (fun r => (∀ c : Dev nD,
      r.2.mem ((c.tc : Thread nD τ).loc main_v1) = Out m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := fun c => owe 0 c) (howed₀ := fun _ => rfl) (howedN := fun _ => rfl)
    (L := L) (lv := lv) (hL := L_of_ne) (hwaits := waits m ρ)
    (G := Deal m) (G' := Dealt m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund m) $$ HX with HG
      imodintro
      isplitl [HP] <;> iassumption)
    (hglob := glob m)
    (hA := fun _ _ => rfl) (hpf := fun _ k => k.elim0)
    (X := start m) (Y := leaves m) (Z := fun _ => iprop(emp))
    (hX := start_intro m ρ) (hin := phi0_intro m ρ) (hout := phi1_exit m ρ)
    (QY := Ends m) (hY := ends_intro m)
    (hQ := fun s h hs => ⟨fun c => ⟨(h c).2.2.2.2.2.2, (h c).2.2.2.1, (h c).2.2.2.2.1, (h c).2.2.2.2.2.1,
      ((h c).1 (0 : Fin 1)).trans ((dats (F := F) m ρ 0 c).arrAt_in (0 : Fin 1) rfl _)⟩, sem_eq_zero hs fun c => (h c).2.2.1⟩)

end Cert.KernelIdeal.Run

end
-- ==== Proof.Values.lean ====
/-
# The values

Over the extended reals the kernel's rows are the reference's: the piece of rows a device works out lacks, of the ring's
sums, exactly the partial sum the device itself holds, which is the one the reference adds; the norm is the same
operations on the same row; the exchange only moves rows.
-/
module

public import proofs.«01_k».proof.Defs
public import proofs.«01_k».proof.Proof.Run
public import proofs.«01_k».proof.Proof.Gen.ReferenceIdeal.Run
public import Idealize.ShloMosaic.Lib.Pointwise

@[expose] public section

set_option maxRecDepth 16384

noncomputable section

namespace Cert.Proof

open Idealize.ShloMosaic Idealize.SL.Sem Idealize.ShloMosaic.TcCoe
open Idealize.ShloMosaic.Pointwise

section R
open Cert.ReferenceIdeal Cert.ReferenceIdeal.Gen

variable (x0 : FVec Ideal S2048x2048 .f32) (x1 : FVec Ideal S4x2048x2048 .f32) (x2 : FVec Ideal S2048x2048 .f32) (x3 : FVec Ideal S1x2048 .f32)

/-- The reference's fourth partial sum of every row. -/
def fourth : FVec Ideal S2048x2048 .f32 :=
  shapeCast S2048x2048 (Host.reduceAdd (select (broadcastInDim S4x4x4x128x2048 ![0, 1, 2, 3, 4] bcast_S4x1x4x1x1_S4x4x4x128x2048_0_1_2_3_4 (broadcastInDim S4x1x4x1x1 ![0, 2] bcast_S4x4_S4x1x4x1x1_0_2 (cmpi .eq (broadcastInDim S4x4 ![0, 1] bcast_S4x1_S4x4_0_1 (broadcastInDim S4x1 ![0] bcast_S4_S4x1_0 (iotaInDim S4 32 0))) (broadcastInDim S4x4 ![0, 1] bcast_S1x4_S4x4_0_1 (Host.remsi (addi (broadcastInDim S1x4 ![1] bcast_S4_S1x4_1 (iotaInDim S4 32 0)) (broadcastInDim S1x4 ![] bcast_S_S1x4 (constantI S_ 32 3#32))) (broadcastInDim S1x4 ![] bcast_S_S1x4 (constantI S_ 32 4#32))))))) (shapeCast S4x4x4x128x2048 x1 shapeCasts_S4x2048x2048_S4x4x4x128x2048) (broadcastInDim S4x4x4x128x2048 ![] bcast_S_S4x4x4x128x2048 (id (constant S_ .f32 0x00000000#32)))) (constant S_ .f32 0x00000000#32) reducesTo_S4x4x4x128x2048_S4x4x128x2048_d0 h_S_) shapeCasts_S4x4x128x2048_S2048x2048
/-- The rows before the norm, -/
def summed : FVec Ideal S2048x2048 .f32 := addf (addf x0 (fourth x1)) x2
/-- and the reference's result. -/
def refOut : FVec Ideal S2048x2048 .f32 :=
  mulf (Host.divf (summed x0 x1 x2) (broadcastInDim S2048x2048 ![0, 1] bcast_S2048x1_S2048x2048_0_1 (Host.sqrt (addf (Host.divf (broadcastInDim S2048x1 ![0] bcast_S2048_S2048x1_0 (Host.reduceAdd (mulf (summed x0 x1 x2) (summed x0 x1 x2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 x3)

theorem refOut_at (r k : Fin 2048) : refOut x0 x1 x2 x3 (ix2 r k)
    = Ideal.div (summed x0 x1 x2 (ix2 r k)) (Ideal.sqrt (Ideal.div (∑ x, summed x0 x1 x2 (ix2 r x) * summed x0 x1 x2 (ix2 r x)) (Ideal.ofBits FTy.f32 1157627904#32)
        + Ideal.ofBits FTy.f32 897988541#32)) * x3 (ix2 0 k) := by
  pointwise [refOut]
theorem summed_at (r k : Fin 2048) : summed x0 x1 x2 (ix2 r k) = x0 (ix2 r k) + fourth x1 (ix2 r k) + x2 (ix2 r k) := by
  pointwise [summed]

/-- The device along z whose partial sum piece `j` of a quarter still lacks. -/
def lacks (j : Fin 4) : Fin 4 := ⟨(j.val + 3) % 4, Nat.mod_lt _ (by decide)⟩

theorem chosen (j x : Fin 4) (a : EReal) :
    Scalar.select (IntOp.cmpi CmpIPredicate.eq (BitVec.ofNat 32 x.val) (IntOp.remsi ArithUnit.host (IntOp.addi (BitVec.ofNat 32 j.val) 3#32) 4#32)) a 0
      = if x = lacks j then a else 0 := by
  have h : ∀ j x : Fin 4, IntOp.cmpi CmpIPredicate.eq (BitVec.ofNat 32 x.val) (IntOp.remsi ArithUnit.host (IntOp.addi (BitVec.ofNat 32 j.val) 3#32) 4#32)
      = if x = lacks j then 1#1 else 0#1 := by decide
  rw [h]
  split <;> rfl

/-- Of the four partial sums of a row the reference picks one. -/
theorem fourth_at (r k : Fin 2048) : fourth x1 (ix2 r k) = x1 (ix3 (lacks ⟨r.val / 128 % 4, Nat.mod_lt _ (by decide)⟩) r k) := by
  pointwise [fourth]
  have h0 : (id (constant (F := Ideal) S_ FTy.f32 0#32) ix0 : EReal) = 0 := by
    show (constant (F := Ideal) S_ FTy.f32 0#32 ix0 : EReal) = 0
    pointwise
  rw [h0]
  simp only [chosen ⟨r.val / 128 % 4, Nat.mod_lt _ (by decide)⟩]
  rw [Finset.sum_ite_eq', if_pos (Finset.mem_univ _)]
end R

section K
open Cert.KernelIdeal Cert.KernelIdeal.Gen Cert.KernelIdeal.Run

theorem norm_at (v : FVec Ideal S1x128x2048 .bf16) (w : FVec Ideal S128x2048 .f32) (g : FVec Ideal S1x2048 .f32) (r : Fin 128) (k : Fin 2048) :
    k0_pay4 (F := Ideal) (k0_pay3 (F := Ideal) v w g) (ix2 r k)
      = Ideal.div (v (ix3 0 r k) + w (ix2 r k)) (Ideal.sqrt (Ideal.div (∑ x, (v (ix3 0 r x) + w (ix2 r x)) * (v (ix3 0 r x) + w (ix2 r x))) (Ideal.ofBits FTy.f32 1157627904#32)
          + Ideal.ofBits FTy.f32 897988541#32)) * g (ix2 0 k) := by
  pointwise [k0_pay3, k0_pay4]
theorem hop_at (v : FVec Ideal S128x2048 .f32) (w : FVec Ideal S128x2048 .f32) (r : Fin 128) (k : Fin 2048) :
    k0_pay2 (F := Ideal) (k0_pay1 (F := Ideal) v) w (ix3 0 r k) = v (ix2 r k) + w (ix2 r k) := by
  pointwise [k0_pay1, k0_pay2]
theorem strip_at (v : FVec Ideal S512x2048 .bf16) (r : Fin 512) (k : Fin 2048) : k0_pay5 (F := Ideal) v (ix3 0 r k) = v (ix2 r k) := by
  pointwise [k0_pay5]

variable (m : (ℓ : Loc nD τ sig) → Buf (Elt Ideal) ℓ)
  (x0 : FVec Ideal S2048x2048 .f32) (x1 : FVec Ideal Cert.ReferenceIdeal.S4x2048x2048 .f32) (x2 : FVec Ideal S2048x2048 .f32) (x3 : FVec Ideal S1x2048 .f32)

/-- The memory holds the arguments: three whole on every device, the partial sums one device's along z each. -/
structure Holds : Prop where
  h0 : ∀ c, a0 m c = x0
  h1 : ∀ c, a1 m c = Layout.blockN ⟨3, ![1, 2048, 2048]⟩ ⟨3, ![4, 2048, 2048]⟩ (Layout.meshBlock [2, 2, 4] ![[2], [], []] c) x1
  h2 : ∀ c, a2 m c = x2
  h3 : ∀ c, a3 m c = x3

variable {m x0 x1 x2 x3}

/-- A row of piece `p`. -/
def rowOf (p : Fin 16) (r : Fin 128) : Fin 2048 := ⟨128 * p.val + r.val, by omega⟩

theorem pemb_ix (p : Fin 16) (r : Fin 128) (k : Fin 2048) : pemb p (ix2 r k) = ix2 (rowOf p r) k := by
  funext a
  match a with
  | ⟨0, _⟩ => exact Fin.ext (pemb_0 p (ix2 r k))
  | ⟨1, _⟩ => exact Fin.ext (pemb_1 p (ix2 r k))

theorem part_at (h : Holds m x0 x1 x2 x3) (p : Fin 16) (r : Fin 128) (k : Fin 2048) :
    a1 m (owner p) (p3emb p (ix2 r k)) = x1 (ix3 (lacks ⟨p.val % 4, Nat.mod_lt _ (by decide)⟩) (rowOf p r) k) := by
  rw [h.h1]
  show x1 _ = x1 _
  refine congrArg x1 (funext fun a => Fin.ext ?_)
  have hz : ∀ p : Fin 16, Layout.meshLin [2, 2, 4] (owner p).val [2] = (p.val % 4 + 3) % 4 := by decide
  have hz0 : Layout.meshLin [2, 2, 4] (owner p).val [] = 0 := rfl
  match a with
  | ⟨0, _⟩ =>
    show Layout.meshLin [2, 2, 4] (owner p).val [2] * 1 + 0 = (p.val % 4 + 3) % 4
    rw [hz]; omega
  | ⟨1, _⟩ =>
    show Layout.meshLin [2, 2, 4] (owner p).val [] * 2048 + (128 * p.val + r.val) = 128 * p.val + r.val
    rw [hz0]; omega
  | ⟨2, _⟩ =>
    show Layout.meshLin [2, 2, 4] (owner p).val [] * 2048 + k.val = k.val
    rw [hz0]; omega

theorem complete_at (h : Holds m x0 x1 x2 x3) (p : Fin 16) (r : Fin 128) (k : Fin 2048) :
    (comm1 m (owner p) (ix3 0 r k) : EReal) = x0 (ix2 (rowOf p r) k) + fourth x1 (ix2 (rowOf p r) k) := by
  have hp : pc (owner p) 0 = p := by revert p; decide
  have hl : pc (right (left (owner p))) 0 = p := by revert p; decide
  unfold comm1 C0
  rw [hp, hl, hop_at, pemb_ix, part_at h, h.h0, fourth_at]
  have hj : (⟨(rowOf p r).val / 128 % 4, Nat.mod_lt _ (by decide)⟩ : Fin 4) = ⟨p.val % 4, Nat.mod_lt _ (by decide)⟩ := by
    refine Fin.ext ?_
    show (128 * p.val + r.val) / 128 % 4 = p.val % 4
    have := r.isLt; omega
  rw [hj]

theorem own_at (h : Holds m x0 x1 x2 x3) (p : Fin 16) (r : Fin 128) (k : Fin 2048) :
    (own m (owner p) (ix2 r k) : EReal) = refOut x0 x1 x2 x3 (ix2 (rowOf p r) k) := by
  have hp : pc (owner p) 0 = p := by revert p; decide
  unfold own
  rw [norm_at, refOut_at, hp]
  simp only [complete_at h, pemb_ix, h.h2, h.h3, summed_at]

/-- The result is the reference's. -/
theorem Out_eq (h : Holds m x0 x1 x2 x3) : (Out m : FVec Ideal S2048x2048 .f32) = refOut x0 x1 x2 x3 := by
  funext i
  obtain ⟨r, k, rfl⟩ : ∃ r k, i = ix2 r k := ⟨i 0, i 1, by funext a; match a with | ⟨0, _⟩ => rfl | ⟨1, _⟩ => rfl⟩
  have hq : inQ (ix2 r k) = ix3 0 ⟨r.val % 512, Nat.mod_lt _ (by decide)⟩ k := by
    funext a; match a with | ⟨0, _⟩ => rfl | ⟨1, _⟩ => rfl | ⟨2, _⟩ => rfl
  have he : qemb (ofRowQ (ix2 r k)) (ix2 ⟨r.val % 512, Nat.mod_lt _ (by decide)⟩ k) = ix2 r k := by
    funext a
    match a with
    | ⟨0, _⟩ => refine Fin.ext ((qemb_0 _ _).trans ?_); show 512 * (r.val / 512) + r.val % 512 = r.val; omega
    | ⟨1, _⟩ => exact Fin.ext (qemb_1 _ _)
  have hi : inP (ix2 r k) = ix2 ⟨r.val % 128, Nat.mod_lt _ (by decide)⟩ k := by
    funext a; match a with | ⟨0, _⟩ => rfl | ⟨1, _⟩ => rfl
  have hr : rowOf (ofRow (ix2 r k)) ⟨r.val % 128, Nat.mod_lt _ (by decide)⟩ = r := by
    refine Fin.ext ?_; show 128 * (r.val / 128) + r.val % 128 = r.val; omega
  unfold Out
  rw [hq, strip_at]
  show G m (qemb _ _) = _
  rw [he]
  unfold G
  rw [hi, own_at h, hr]
end K

end Cert.Proof

end
-- ==== Proof.lean ====
/-
# The claims

Each program ends with its arguments as they were and every counter at zero; over the extended reals the kernel leaves
the reference's result on every device. The kernel and its ideal reading have one text, so both take the one run.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Values
public import Idealize.ShloMosaic.Adequacy
public import Idealize.ShloMosaic.Init

@[expose] public section

noncomputable section

set_option maxRecDepth 16384

namespace Cert.Proof

open Idealize.ShloMosaic Idealize.SL.Sem Idealize.ShloMosaic.TcCoe

/-! ## The frames -/

theorem defs₀_eq : (Cert.Kernel.defs₀ (F := Bits)) = Cert.KernelIdeal.defs₀ (F := Bits) := by
  refine congrArg Defs.onTc (funext fun l => funext fun x => ?_)
  match l, x with
  | ⟨0, _⟩, (t, s) => rfl
  | ⟨n + 1, h⟩, _ => exact absurd h (Nat.not_lt.2 (Nat.le_add_left _ _))
theorem defs_eq : (Cert.Kernel.defs (F := Bits)) = Cert.KernelIdeal.defs (F := Bits) :=
  congrArg (Pipeline.defs (Cert.KernelIdeal.pcfgs (F := Bits))) defs₀_eq

theorem frame_kernel : Cert.quiescent_Kernel := by
  intro m ρ _
  rw [defs_eq]
  exact (θ_run Cert.KernelIdeal.defs _ _).mono (fun _ h => ⟨fun c => (h.1 c).2, h.2⟩) (Cert.KernelIdeal.Run.run_main (F := Bits) m ρ)

theorem frame_kernelIdeal : Cert.quiescent_KernelIdeal := fun m ρ _ =>
  (θ_run Cert.KernelIdeal.defs _ _).mono (fun _ h => ⟨fun c => (h.1 c).2, h.2⟩) (Cert.KernelIdeal.Run.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-! ## The values -/

theorem values : Cert.algebraic_KernelIdeal_ReferenceIdeal := by
  intro m ρ m' ρ' _ hin
  have h : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (hin c).1, fun c => (hin c).2.1, fun c => (hin c).2.2.1, fun c => (hin c).2.2.2⟩
  refine ⟨Cert.KernelIdeal.Run.Out m,
    (θ_run Cert.KernelIdeal.defs _ _).mono (fun _ hr => hr.1) (Cert.KernelIdeal.Run.run_main (F := Ideal) m ρ),
    (θ_run Cert.ReferenceIdeal.defs _ _).mono (fun r hr => ⟨(hr 0).1.trans ?_, (hr 0).2⟩) (Cert.ReferenceIdeal.Value.run (F := Ideal) m' ρ')⟩
  exact (Out_eq h).symm

theorem claim : Cert.Claim := ⟨Cert.Kernel.Gen.facts, Cert.KernelIdeal.Gen.facts, Cert.ReferenceIdeal.Gen.facts,
  frame_kernel, frame_kernelIdeal, frame_referenceIdeal, trivial, values⟩

end Cert.Proof

end
